-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v22) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x2048 : Shape := ⟨3, ![4, 8192, 2048]⟩
abbrev S4x2048 : Shape := ⟨2, ![4, 2048]⟩
abbrev S_ : Shape := ⟨0, ![]⟩
abbrev S1x2048 : Shape := ⟨2, ![1, 2048]⟩
abbrev S2048 : Shape := ⟨1, ![2048]⟩
abbrev S1x1x2048 : Shape := ⟨3, ![1, 1, 2048]⟩

abbrev nBuf : Table → Nat
  | .hbm => 2
  | _ => 0

abbrev bufTy : (tb : Table) → Fin (nBuf tb) → BufTy
  | .hbm, ⟨0, _⟩ => ⟨S4x8192x2048, .f32⟩
  | .hbm, ⟨1, _⟩ => ⟨S4x2048, .f32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192x2048 : Shape := ⟨3, ![4, 8192, 2048]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S4 : Shape := ⟨1, ![4]⟩
abbrev S4x1 : Shape := ⟨2, ![4, 1]⟩
abbrev S4x2 : Shape := ⟨2, ![4, 2]⟩
abbrev S4x2048 : Shape := ⟨2, ![4, 2048]⟩

abbrev nBuf : Space → Nat
  | .hbm => 794
  | .vmem => 0
  | .smem => 0
  | _ => 0

abbrev hbmTy0_0 (i : Nat) : BufTy := match i % 128 with
  | 0 => ⟨S4x8192x2048, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S_, .i32⟩
  | 33 => ⟨S1, .i32⟩
  | 34 => ⟨S_, .i32⟩
  | 35 => ⟨S2, .i64⟩
  | 36 => ⟨S_, .i64⟩
  | 37 => ⟨S2, .i64⟩
  | 38 => ⟨S2, .i64⟩
  | 39 => ⟨S_, .i64⟩
  | 40 => ⟨S2, .i64⟩
  | 41 => ⟨S2, .i64⟩
  | 42 => ⟨S2, .i32⟩
  | 43 => ⟨S2, .i32⟩
  | 44 => ⟨S_, .i32⟩
  | 45 => ⟨S_, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S4x8192x2048, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S4x8192x2048, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2x1, .i32⟩
  | 11 => ⟨S2x1, .i32⟩
  | 12 => ⟨S2x2, .i32⟩
  | 13 => ⟨S1x2, .i32⟩
  | 14 => ⟨S2, .i32⟩
  | 15 => ⟨S1x2, .i32⟩
  | 16 => ⟨S2, .i32⟩
  | 17 => ⟨S1, .i32⟩
  | 18 => ⟨S_, .i32⟩
  | 19 => ⟨S1, .i32⟩
  | 20 => ⟨S_, .i32⟩
  | 21 => ⟨S4, .i64⟩
  | 22 => ⟨S_, .i64⟩
  | 23 => ⟨S4, .i64⟩
  | 24 => ⟨S4, .i64⟩
  | 25 => ⟨S_, .i64⟩
  | 26 => ⟨S4, .i64⟩
  | 27 => ⟨S4, .i64⟩
  | 28 => ⟨S4, .i32⟩
  | 29 => ⟨S4, .i32⟩
  | 30 => ⟨S_, .i32⟩
  | 31 => ⟨S_, .i32⟩
  | 32 => ⟨S_, .i32⟩
  | 33 => ⟨S4, .i32⟩
  | 34 => ⟨S4, .i32⟩
  | 35 => ⟨S4, .i32⟩
  | 36 => ⟨S4, .i32⟩
  | 37 => ⟨S4, .i32⟩
  | 38 => ⟨S_, .i32⟩
  | 39 => ⟨S4, .i32⟩
  | 40 => ⟨S4, .i32⟩
  | 41 => ⟨S_, .i32⟩
  | 42 => ⟨S4, .i32⟩
  | 43 => ⟨S4, .i32⟩
  | 44 => ⟨S4, .i32⟩
  | 45 => ⟨S4, .i32⟩
  | 46 => ⟨S4, .i32⟩
  | 47 => ⟨S_, .i32⟩
  | 48 => ⟨S4, .i32⟩
  | 49 => ⟨S4, .i32⟩
  | 50 => ⟨S_, .i32⟩
  | 51 => ⟨S4, .i32⟩
  | 52 => ⟨S4, .i32⟩
  | 53 => ⟨S4, .i32⟩
  | 54 => ⟨S4, .i32⟩
  | 55 => ⟨S4, .i32⟩
  | 56 => ⟨S_, .i32⟩
  | 57 => ⟨S4, .i32⟩
  | 58 => ⟨S4, .i32⟩
  | 59 => ⟨S_, .i32⟩
  | 60 => ⟨S4, .i32⟩
  | 61 => ⟨S4, .i32⟩
  | 62 => ⟨S4, .i32⟩
  | 63 => ⟨S4, .i32⟩
  | 64 => ⟨S4, .i32⟩
  | 65 => ⟨S_, .i32⟩
  | 66 => ⟨S4, .i32⟩
  | 67 => ⟨S4, .i32⟩
  | 68 => ⟨S_, .i32⟩
  | 69 => ⟨S4, .i32⟩
  | 70 => ⟨S4, .i32⟩
  | 71 => ⟨S4, .i32⟩
  | 72 => ⟨S4, .i32⟩
  | 73 => ⟨S4, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S4, .i32⟩
  | 81 => ⟨S_, .i32⟩
  | 82 => ⟨S4, .i32⟩
  | 83 => ⟨S4, .i32⟩
  | 84 => ⟨S_, .i32⟩
  | 85 => ⟨S4, .i32⟩
  | 86 => ⟨S4, .i32⟩
  | 87 => ⟨S4, .i32⟩
  | 88 => ⟨S4, .i32⟩
  | 89 => ⟨S4, .i32⟩
  | 90 => ⟨S_, .i32⟩
  | 91 => ⟨S4, .i32⟩
  | 92 => ⟨S4, .i32⟩
  | 93 => ⟨S_, .i32⟩
  | 94 => ⟨S4, .i32⟩
  | 95 => ⟨S4, .i32⟩
  | 96 => ⟨S4, .i32⟩
  | 97 => ⟨S4, .i32⟩
  | 98 => ⟨S4, .i32⟩
  | 99 => ⟨S_, .i32⟩
  | 100 => ⟨S4, .i32⟩
  | 101 => ⟨S4, .i32⟩
  | 102 => ⟨S_, .i32⟩
  | 103 => ⟨S4, .i32⟩
  | 104 => ⟨S4, .i32⟩
  | 105 => ⟨S4, .i32⟩
  | 106 => ⟨S4, .i32⟩
  | 107 => ⟨S4, .i32⟩
  | 108 => ⟨S_, .i32⟩
  | 109 => ⟨S4, .i32⟩
  | 110 => ⟨S4, .i32⟩
  | 111 => ⟨S_, .i32⟩
  | 112 => ⟨S4, .i32⟩
  | 113 => ⟨S4, .i32⟩
  | 114 => ⟨S4, .i32⟩
  | 115 => ⟨S4, .i32⟩
  | 116 => ⟨S4, .i32⟩
  | 117 => ⟨S4, .i32⟩
  | 118 => ⟨S4, .i32⟩
  | 119 => ⟨S4, .i32⟩
  | 120 => ⟨S_, .i32⟩
  | 121 => ⟨S4, .i32⟩
  | 122 => ⟨S4, .i32⟩
  | 123 => ⟨S4, .i32⟩
  | 124 => ⟨S_, .i32⟩
  | 125 => ⟨S4, .i32⟩
  | 126 => ⟨S4, .i32⟩
  | 127 => ⟨S_, .i32⟩
  | _ => ⟨S4x8192x2048, .f32⟩

abbrev hbmTy0_3 (i : Nat) : BufTy := match i % 128 with
  | 0 => ⟨S4, .i32⟩
  | 1 => ⟨S4, .i32⟩
  | 2 => ⟨S4, .i32⟩
  | 3 => ⟨S4, .i32⟩
  | 4 => ⟨S4, .i32⟩
  | 5 => ⟨S_, .i32⟩
  | 6 => ⟨S4, .i32⟩
  | 7 => ⟨S4, .i32⟩
  | 8 => ⟨S_, .i32⟩
  | 9 => ⟨S4, .i32⟩
  | 10 => ⟨S4, .i32⟩
  | 11 => ⟨S4, .i32⟩
  | 12 => ⟨S4, .i32⟩
  | 13 => ⟨S4, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S4, .i32⟩
  | 21 => ⟨S4, .i32⟩
  | 22 => ⟨S4, .i32⟩
  | 23 => ⟨S_, .i32⟩
  | 24 => ⟨S4, .i32⟩
  | 25 => ⟨S4, .i32⟩
  | 26 => ⟨S_, .i32⟩
  | 27 => ⟨S4, .i32⟩
  | 28 => ⟨S4, .i32⟩
  | 29 => ⟨S4, .i32⟩
  | 30 => ⟨S4, .i32⟩
  | 31 => ⟨S4, .i32⟩
  | 32 => ⟨S4, .i32⟩
  | 33 => ⟨S4, .i32⟩
  | 34 => ⟨S4, .i32⟩
  | 35 => ⟨S_, .i32⟩
  | 36 => ⟨S4, .i32⟩
  | 37 => ⟨S4, .i32⟩
  | 38 => ⟨S4, .i32⟩
  | 39 => ⟨S_, .i32⟩
  | 40 => ⟨S4, .i32⟩
  | 41 => ⟨S4, .i32⟩
  | 42 => ⟨S_, .i32⟩
  | 43 => ⟨S4, .i32⟩
  | 44 => ⟨S4, .i32⟩
  | 45 => ⟨S4, .i32⟩
  | 46 => ⟨S4, .i32⟩
  | 47 => ⟨S4, .i32⟩
  | 48 => ⟨S_, .i32⟩
  | 49 => ⟨S4, .i32⟩
  | 50 => ⟨S4, .i32⟩
  | 51 => ⟨S_, .i32⟩
  | 52 => ⟨S4, .i32⟩
  | 53 => ⟨S4, .i32⟩
  | 54 => ⟨S4, .i32⟩
  | 55 => ⟨S4, .i32⟩
  | 56 => ⟨S4, .i32⟩
  | 57 => ⟨S_, .i32⟩
  | 58 => ⟨S4, .i32⟩
  | 59 => ⟨S4, .i32⟩
  | 60 => ⟨S_, .i32⟩
  | 61 => ⟨S4, .i32⟩
  | 62 => ⟨S4, .i32⟩
  | 63 => ⟨S4, .i32⟩
  | 64 => ⟨S4, .i32⟩
  | 65 => ⟨S4, .i32⟩
  | 66 => ⟨S_, .i32⟩
  | 67 => ⟨S4, .i32⟩
  | 68 => ⟨S4, .i32⟩
  | 69 => ⟨S_, .i32⟩
  | 70 => ⟨S4, .i32⟩
  | 71 => ⟨S4, .i32⟩
  | 72 => ⟨S4, .i32⟩
  | 73 => ⟨S4, .i32⟩
  | 74 => ⟨S4, .i32⟩
  | 75 => ⟨S4, .i32⟩
  | 76 => ⟨S4, .i32⟩
  | 77 => ⟨S4, .i32⟩
  | 78 => ⟨S_, .i32⟩
  | 79 => ⟨S4, .i32⟩
  | 80 => ⟨S4, .i32⟩
  | 81 => ⟨S4, .i32⟩
  | 82 => ⟨S_, .i32⟩
  | 83 => ⟨S4, .i32⟩
  | 84 => ⟨S4, .i32⟩
  | 85 => ⟨S_, .i32⟩
  | 86 => ⟨S4, .i32⟩
  | 87 => ⟨S4, .i32⟩
  | 88 => ⟨S4, .i32⟩
  | 89 => ⟨S4, .i32⟩
  | 90 => ⟨S4, .i32⟩
  | 91 => ⟨S_, .i32⟩
  | 92 => ⟨S4, .i32⟩
  | 93 => ⟨S4, .i32⟩
  | 94 => ⟨S_, .i32⟩
  | 95 => ⟨S4, .i32⟩
  | 96 => ⟨S4, .i32⟩
  | 97 => ⟨S4, .i32⟩
  | 98 => ⟨S4, .i32⟩
  | 99 => ⟨S4, .i32⟩
  | 100 => ⟨S_, .i32⟩
  | 101 => ⟨S4, .i32⟩
  | 102 => ⟨S4, .i32⟩
  | 103 => ⟨S_, .i32⟩
  | 104 => ⟨S4, .i32⟩
  | 105 => ⟨S4, .i32⟩
  | 106 => ⟨S4, .i32⟩
  | 107 => ⟨S4, .i32⟩
  | 108 => ⟨S4, .i32⟩
  | 109 => ⟨S_, .i32⟩
  | 110 => ⟨S4, .i32⟩
  | 111 => ⟨S4, .i32⟩
  | 112 => ⟨S_, .i32⟩
  | 113 => ⟨S4, .i32⟩
  | 114 => ⟨S4, .i32⟩
  | 115 => ⟨S4, .i32⟩
  | 116 => ⟨S4, .i32⟩
  | 117 => ⟨S4, .i32⟩
  | 118 => ⟨S4, .i32⟩
  | 119 => ⟨S4, .i32⟩
  | 120 => ⟨S4, .i32⟩
  | 121 => ⟨S_, .i32⟩
  | 122 => ⟨S4, .i32⟩
  | 123 => ⟨S4, .i32⟩
  | 124 => ⟨S4, .i32⟩
  | 125 => ⟨S1, .i32⟩
  | 126 => ⟨S_, .i32⟩
  | 127 => ⟨S1, .i32⟩
  | _ => ⟨S4x8192x2048, .f32⟩

abbrev hbmTy0_4 (i : Nat) : BufTy := match i % 128 with
  | 0 => ⟨S_, .i32⟩
  | 1 => ⟨S4, .i64⟩
  | 2 => ⟨S_, .i64⟩
  | 3 => ⟨S4, .i64⟩
  | 4 => ⟨S4, .i64⟩
  | 5 => ⟨S_, .i64⟩
  | 6 => ⟨S4, .i64⟩
  | 7 => ⟨S4, .i64⟩
  | 8 => ⟨S4, .i32⟩
  | 9 => ⟨S4, .i32⟩
  | 10 => ⟨S_, .i32⟩
  | 11 => ⟨S_, .i32⟩
  | 12 => ⟨S_, .i32⟩
  | 13 => ⟨S4, .i32⟩
  | 14 => ⟨S4, .i32⟩
  | 15 => ⟨S4, .i32⟩
  | 16 => ⟨S4, .i32⟩
  | 17 => ⟨S4, .i32⟩
  | 18 => ⟨S_, .i32⟩
  | 19 => ⟨S4, .i32⟩
  | 20 => ⟨S4, .i32⟩
  | 21 => ⟨S_, .i32⟩
  | 22 => ⟨S4, .i32⟩
  | 23 => ⟨S4, .i32⟩
  | 24 => ⟨S4, .i32⟩
  | 25 => ⟨S4, .i32⟩
  | 26 => ⟨S4, .i32⟩
  | 27 => ⟨S_, .i32⟩
  | 28 => ⟨S4, .i32⟩
  | 29 => ⟨S4, .i32⟩
  | 30 => ⟨S_, .i32⟩
  | 31 => ⟨S4, .i32⟩
  | 32 => ⟨S4, .i32⟩
  | 33 => ⟨S4, .i32⟩
  | 34 => ⟨S4, .i32⟩
  | 35 => ⟨S4, .i32⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S4, .i32⟩
  | 43 => ⟨S4, .i32⟩
  | 44 => ⟨S4, .i32⟩
  | 45 => ⟨S_, .i32⟩
  | 46 => ⟨S4, .i32⟩
  | 47 => ⟨S4, .i32⟩
  | 48 => ⟨S_, .i32⟩
  | 49 => ⟨S4, .i32⟩
  | 50 => ⟨S4, .i32⟩
  | 51 => ⟨S4, .i32⟩
  | 52 => ⟨S4, .i32⟩
  | 53 => ⟨S4, .i32⟩
  | 54 => ⟨S4, .i32⟩
  | 55 => ⟨S4, .i32⟩
  | 56 => ⟨S4, .i32⟩
  | 57 => ⟨S_, .i32⟩
  | 58 => ⟨S4, .i32⟩
  | 59 => ⟨S4, .i32⟩
  | 60 => ⟨S4, .i32⟩
  | 61 => ⟨S_, .i32⟩
  | 62 => ⟨S4, .i32⟩
  | 63 => ⟨S4, .i32⟩
  | 64 => ⟨S_, .i32⟩
  | 65 => ⟨S4, .i32⟩
  | 66 => ⟨S4, .i32⟩
  | 67 => ⟨S4, .i32⟩
  | 68 => ⟨S4, .i32⟩
  | 69 => ⟨S4, .i32⟩
  | 70 => ⟨S_, .i32⟩
  | 71 => ⟨S4, .i32⟩
  | 72 => ⟨S4, .i32⟩
  | 73 => ⟨S_, .i32⟩
  | 74 => ⟨S4, .i32⟩
  | 75 => ⟨S4, .i32⟩
  | 76 => ⟨S4, .i32⟩
  | 77 => ⟨S4, .i32⟩
  | 78 => ⟨S4, .i32⟩
  | 79 => ⟨S_, .i32⟩
  | 80 => ⟨S4, .i32⟩
  | 81 => ⟨S4, .i32⟩
  | 82 => ⟨S_, .i32⟩
  | 83 => ⟨S4, .i32⟩
  | 84 => ⟨S4, .i32⟩
  | 85 => ⟨S4, .i32⟩
  | 86 => ⟨S4, .i32⟩
  | 87 => ⟨S4, .i32⟩
  | 88 => ⟨S_, .i32⟩
  | 89 => ⟨S4, .i32⟩
  | 90 => ⟨S4, .i32⟩
  | 91 => ⟨S_, .i32⟩
  | 92 => ⟨S4, .i32⟩
  | 93 => ⟨S4, .i32⟩
  | 94 => ⟨S4, .i32⟩
  | 95 => ⟨S4, .i32⟩
  | 96 => ⟨S4, .i32⟩
  | 97 => ⟨S4, .i32⟩
  | 98 => ⟨S4, .i32⟩
  | 99 => ⟨S4, .i32⟩
  | 100 => ⟨S_, .i32⟩
  | 101 => ⟨S4, .i32⟩
  | 102 => ⟨S4, .i32⟩
  | 103 => ⟨S4, .i32⟩
  | 104 => ⟨S_, .i32⟩
  | 105 => ⟨S4, .i32⟩
  | 106 => ⟨S4, .i32⟩
  | 107 => ⟨S_, .i32⟩
  | 108 => ⟨S4, .i32⟩
  | 109 => ⟨S4, .i32⟩
  | 110 => ⟨S4, .i32⟩
  | 111 => ⟨S4, .i32⟩
  | 112 => ⟨S4, .i32⟩
  | 113 => ⟨S_, .i32⟩
  | 114 => ⟨S4, .i32⟩
  | 115 => ⟨S4, .i32⟩
  | 116 => ⟨S_, .i32⟩
  | 117 => ⟨S4, .i32⟩
  | 118 => ⟨S4, .i32⟩
  | 119 => ⟨S4, .i32⟩
  | 120 => ⟨S4, .i32⟩
  | 121 => ⟨S4, .i32⟩
  | 122 => ⟨S_, .i32⟩
  | 123 => ⟨S4, .i32⟩
  | 124 => ⟨S4, .i32⟩
  | 125 => ⟨S_, .i32⟩
  | 126 => ⟨S4, .i32⟩
  | 127 => ⟨S4, .i32⟩
  | _ => ⟨S4x8192x2048, .f32⟩

abbrev hbmTy0_5 (i : Nat) : BufTy := match i % 128 with
  | 0 => ⟨S4, .i32⟩
  | 1 => ⟨S4, .i32⟩
  | 2 => ⟨S4, .i32⟩
  | 3 => ⟨S_, .i32⟩
  | 4 => ⟨S4, .i32⟩
  | 5 => ⟨S4, .i32⟩
  | 6 => ⟨S_, .i32⟩
  | 7 => ⟨S4, .i32⟩
  | 8 => ⟨S4, .i32⟩
  | 9 => ⟨S4, .i32⟩
  | 10 => ⟨S4, .i32⟩
  | 11 => ⟨S4, .i32⟩
  | 12 => ⟨S4, .i32⟩
  | 13 => ⟨S4, .i32⟩
  | 14 => ⟨S4, .i32⟩
  | 15 => ⟨S_, .i32⟩
  | 16 => ⟨S4, .i32⟩
  | 17 => ⟨S4, .i32⟩
  | 18 => ⟨S4, .i32⟩
  | 19 => ⟨S_, .i32⟩
  | 20 => ⟨S4, .i32⟩
  | 21 => ⟨S4, .i32⟩
  | 22 => ⟨S_, .i32⟩
  | 23 => ⟨S4, .i32⟩
  | 24 => ⟨S4, .i32⟩
  | 25 => ⟨S4, .i32⟩
  | 26 => ⟨S4, .i32⟩
  | 27 => ⟨S4, .i32⟩
  | 28 => ⟨S_, .i32⟩
  | 29 => ⟨S4, .i32⟩
  | 30 => ⟨S4, .i32⟩
  | 31 => ⟨S_, .i32⟩
  | 32 => ⟨S4, .i32⟩
  | 33 => ⟨S4, .i32⟩
  | 34 => ⟨S4, .i32⟩
  | 35 => ⟨S4, .i32⟩
  | 36 => ⟨S4, .i32⟩
  | 37 => ⟨S_, .i32⟩
  | 38 => ⟨S4, .i32⟩
  | 39 => ⟨S4, .i32⟩
  | 40 => ⟨S_, .i32⟩
  | 41 => ⟨S4, .i32⟩
  | 42 => ⟨S4, .i32⟩
  | 43 => ⟨S4, .i32⟩
  | 44 => ⟨S4, .i32⟩
  | 45 => ⟨S4, .i32⟩
  | 46 => ⟨S_, .i32⟩
  | 47 => ⟨S4, .i32⟩
  | 48 => ⟨S4, .i32⟩
  | 49 => ⟨S_, .i32⟩
  | 50 => ⟨S4, .i32⟩
  | 51 => ⟨S4, .i32⟩
  | 52 => ⟨S4, .i32⟩
  | 53 => ⟨S4, .i32⟩
  | 54 => ⟨S4, .i32⟩
  | 55 => ⟨S4, .i32⟩
  | 56 => ⟨S4, .i32⟩
  | 57 => ⟨S4, .i32⟩
  | 58 => ⟨S_, .i32⟩
  | 59 => ⟨S4, .i32⟩
  | 60 => ⟨S4, .i32⟩
  | 61 => ⟨S4, .i32⟩
  | 62 => ⟨S_, .i32⟩
  | 63 => ⟨S4, .i32⟩
  | 64 => ⟨S4, .i32⟩
  | 65 => ⟨S_, .i32⟩
  | 66 => ⟨S4, .i32⟩
  | 67 => ⟨S4, .i32⟩
  | 68 => ⟨S4, .i32⟩
  | 69 => ⟨S4, .i32⟩
  | 70 => ⟨S4, .i32⟩
  | 71 => ⟨S_, .i32⟩
  | 72 => ⟨S4, .i32⟩
  | 73 => ⟨S4, .i32⟩
  | 74 => ⟨S_, .i32⟩
  | 75 => ⟨S4, .i32⟩
  | 76 => ⟨S4, .i32⟩
  | 77 => ⟨S4, .i32⟩
  | 78 => ⟨S4, .i32⟩
  | 79 => ⟨S4, .i32⟩
  | 80 => ⟨S_, .i32⟩
  | 81 => ⟨S4, .i32⟩
  | 82 => ⟨S4, .i32⟩
  | 83 => ⟨S_, .i32⟩
  | 84 => ⟨S4, .i32⟩
  | 85 => ⟨S4, .i32⟩
  | 86 => ⟨S4, .i32⟩
  | 87 => ⟨S4, .i32⟩
  | 88 => ⟨S4, .i32⟩
  | 89 => ⟨S_, .i32⟩
  | 90 => ⟨S4, .i32⟩
  | 91 => ⟨S4, .i32⟩
  | 92 => ⟨S_, .i32⟩
  | 93 => ⟨S4, .i32⟩
  | 94 => ⟨S4, .i32⟩
  | 95 => ⟨S4, .i32⟩
  | 96 => ⟨S4, .i32⟩
  | 97 => ⟨S4, .i32⟩
  | 98 => ⟨S4, .i32⟩
  | 99 => ⟨S4, .i32⟩
  | 100 => ⟨S4, .i32⟩
  | 101 => ⟨S_, .i32⟩
  | 102 => ⟨S4, .i32⟩
  | 103 => ⟨S4, .i32⟩
  | 104 => ⟨S4, .i32⟩
  | 105 => ⟨S1, .i32⟩
  | 106 => ⟨S1, .i32⟩
  | 107 => ⟨S1, .i1⟩
  | 108 => ⟨S_, .i32⟩
  | 109 => ⟨S1, .i32⟩
  | 110 => ⟨S1, .i32⟩
  | 111 => ⟨S1, .i1⟩
  | 112 => ⟨S1, .i1⟩
  | 113 => ⟨S1, .i1⟩
  | 114 => ⟨S_, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S4, .i32⟩
  | 124 => ⟨S4, .i32⟩
  | 125 => ⟨S4, .i32⟩
  | 126 => ⟨S4, .i32⟩
  | 127 => ⟨S4, .i32⟩
  | _ => ⟨S4x8192x2048, .f32⟩

abbrev hbmTy0_6 (i : Nat) : BufTy := match i % 128 with
  | 0 => ⟨S4, .i32⟩
  | 1 => ⟨S4, .i32⟩
  | 2 => ⟨S4, .i32⟩
  | 3 => ⟨S4, .i32⟩
  | 4 => ⟨S4, .i32⟩
  | 5 => ⟨S4, .i32⟩
  | 6 => ⟨S4, .i32⟩
  | 7 => ⟨S4, .i32⟩
  | 8 => ⟨S_, .i32⟩
  | 9 => ⟨S4, .i32⟩
  | 10 => ⟨S4, .i1⟩
  | 11 => ⟨S_, .i32⟩
  | 12 => ⟨S4, .i32⟩
  | 13 => ⟨S4, .i32⟩
  | 14 => ⟨S4, .i32⟩
  | 15 => ⟨S_, .i32⟩
  | 16 => ⟨S4, .i32⟩
  | 17 => ⟨S4, .i1⟩
  | 18 => ⟨S_, .i32⟩
  | 19 => ⟨S4, .i32⟩
  | 20 => ⟨S4, .i32⟩
  | 21 => ⟨S4, .i32⟩
  | 22 => ⟨S4x1, .i32⟩
  | 23 => ⟨S4x1, .i32⟩
  | 24 => ⟨S4x2, .i32⟩
  | 25 => ⟨S4x2048, .f32⟩
  | _ => ⟨S4x8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_call0_c : Ref sig .tc := ⟨.hbm, 13, rfl⟩
abbrev main_call0_c_0 : Ref sig .tc := ⟨.hbm, 14, rfl⟩
abbrev main_call0_c_1 : Ref sig .tc := ⟨.hbm, 15, rfl⟩
abbrev main_call0_call0_v0 : Ref sig .tc := ⟨.hbm, 16, rfl⟩
abbrev main_call0_v0 : Ref sig .tc := ⟨.hbm, 17, rfl⟩
abbrev main_call0_v1 : Ref sig .tc := ⟨.hbm, 18, rfl⟩
abbrev main_call0_c_2 : Ref sig .tc := ⟨.hbm, 19, rfl⟩
abbrev main_call0_c_3 : Ref sig .tc := ⟨.hbm, 20, rfl⟩
abbrev main_call0_call1_v0 : Ref sig .tc := ⟨.hbm, 21, rfl⟩
abbrev main_call0_v2 : Ref sig .tc := ⟨.hbm, 22, rfl⟩
abbrev main_call0_v3 : Ref sig .tc := ⟨.hbm, 23, rfl⟩
abbrev main_call0_c_4 : Ref sig .tc := ⟨.hbm, 24, rfl⟩
abbrev main_call0_c_5 : Ref sig .tc := ⟨.hbm, 25, rfl⟩
abbrev main_call0_call2_v0 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_call3_v0 : Ref sig .tc := ⟨.hbm, 31, rfl⟩
abbrev main_call0_call3_v1 : Ref sig .tc := ⟨.hbm, 32, rfl⟩
abbrev main_call0_call3_v2 : Ref sig .tc := ⟨.hbm, 33, rfl⟩
abbrev main_call0_call3_v3 : Ref sig .tc := ⟨.hbm, 34, rfl⟩
abbrev main_call0_call3_v4 : Ref sig .tc := ⟨.hbm, 35, rfl⟩
abbrev main_call0_call3_c : Ref sig .tc := ⟨.hbm, 36, rfl⟩
abbrev main_call0_call3_v5 : Ref sig .tc := ⟨.hbm, 37, rfl⟩
abbrev main_call0_call3_v6 : Ref sig .tc := ⟨.hbm, 38, rfl⟩
abbrev main_call0_call3_c_0 : Ref sig .tc := ⟨.hbm, 39, rfl⟩
abbrev main_call0_call3_v7 : Ref sig .tc := ⟨.hbm, 40, rfl⟩
abbrev main_call0_call3_v8 : Ref sig .tc := ⟨.hbm, 41, rfl⟩
abbrev main_call0_call3_v9 : Ref sig .tc := ⟨.hbm, 42, rfl⟩
abbrev main_call0_call3_v10 : Ref sig .tc := ⟨.hbm, 43, rfl⟩
abbrev main_call0_call3_call0_v0 : Ref sig .tc := ⟨.hbm, 44, rfl⟩
abbrev main_call0_call3_call0_c : Ref sig .tc := ⟨.hbm, 45, rfl⟩
abbrev main_call0_call3_call0_v1 : Ref sig .tc := ⟨.hbm, 46, rfl⟩
abbrev main_call0_call3_call0_v2 : Ref sig .tc := ⟨.hbm, 47, rfl⟩
abbrev main_call0_call3_call0_v3 : Ref sig .tc := ⟨.hbm, 48, rfl⟩
abbrev main_call0_call3_call0_v4 : Ref sig .tc := ⟨.hbm, 49, rfl⟩
abbrev main_call0_call3_call0_v5 : Ref sig .tc := ⟨.hbm, 50, rfl⟩
abbrev main_call0_call3_call0_v6 : Ref sig .tc := ⟨.hbm, 51, rfl⟩
abbrev main_call0_call3_call0_c_0 : Ref sig .tc := ⟨.hbm, 52, rfl⟩
abbrev main_call0_call3_call0_v7 : Ref sig .tc := ⟨.hbm, 53, rfl⟩
abbrev main_call0_call3_call0_v8 : Ref sig .tc := ⟨.hbm, 54, rfl⟩
abbrev main_call0_call3_call0_c_1 : Ref sig .tc := ⟨.hbm, 55, rfl⟩
abbrev main_call0_call3_call0_v9 : Ref sig .tc := ⟨.hbm, 56, rfl⟩
abbrev main_call0_call3_call0_v10 : Ref sig .tc := ⟨.hbm, 57, rfl⟩
abbrev main_call0_call3_call0_v11 : Ref sig .tc := ⟨.hbm, 58, rfl⟩
abbrev main_call0_call3_call0_v12 : Ref sig .tc := ⟨.hbm, 59, rfl⟩
abbrev main_call0_call3_call0_v13 : Ref sig .tc := ⟨.hbm, 60, rfl⟩
abbrev main_call0_call3_call0_c_2 : Ref sig .tc := ⟨.hbm, 61, rfl⟩
abbrev main_call0_call3_call0_v14 : Ref sig .tc := ⟨.hbm, 62, rfl⟩
abbrev main_call0_call3_call0_v15 : Ref sig .tc := ⟨.hbm, 63, rfl⟩
abbrev main_call0_call3_call0_c_3 : Ref sig .tc := ⟨.hbm, 64, rfl⟩
abbrev main_call0_call3_call0_v16 : Ref sig .tc := ⟨.hbm, 65, rfl⟩
abbrev main_call0_call3_call0_v17 : Ref sig .tc := ⟨.hbm, 66, rfl⟩
abbrev main_call0_call3_call0_v18 : Ref sig .tc := ⟨.hbm, 67, rfl⟩
abbrev main_call0_call3_call0_v19 : Ref sig .tc := ⟨.hbm, 68, rfl⟩
abbrev main_call0_call3_call0_v20 : Ref sig .tc := ⟨.hbm, 69, rfl⟩
abbrev main_call0_call3_call0_c_4 : Ref sig .tc := ⟨.hbm, 70, rfl⟩
abbrev main_call0_call3_call0_v21 : Ref sig .tc := ⟨.hbm, 71, rfl⟩
abbrev main_call0_call3_call0_v22 : Ref sig .tc := ⟨.hbm, 72, rfl⟩
abbrev main_call0_call3_call0_c_5 : Ref sig .tc := ⟨.hbm, 73, rfl⟩
abbrev main_call0_call3_call0_v23 : Ref sig .tc := ⟨.hbm, 74, rfl⟩
abbrev main_call0_call3_call0_v24 : Ref sig .tc := ⟨.hbm, 75, rfl⟩
abbrev main_call0_call3_call0_v25 : Ref sig .tc := ⟨.hbm, 76, rfl⟩
abbrev main_call0_call3_call0_v26 : Ref sig .tc := ⟨.hbm, 77, rfl⟩
abbrev main_call0_call3_call0_v27 : Ref sig .tc := ⟨.hbm, 78, rfl⟩
abbrev main_call0_call3_call0_c_6 : Ref sig .tc := ⟨.hbm, 79, rfl⟩
abbrev main_call0_call3_call0_v28 : Ref sig .tc := ⟨.hbm, 80, rfl⟩
abbrev main_call0_call3_call0_v29 : Ref sig .tc := ⟨.hbm, 81, rfl⟩
abbrev main_call0_call3_call0_c_7 : Ref sig .tc := ⟨.hbm, 82, rfl⟩
abbrev main_call0_call3_call0_v30 : Ref sig .tc := ⟨.hbm, 83, rfl⟩
abbrev main_call0_call3_call0_v31 : Ref sig .tc := ⟨.hbm, 84, rfl⟩
abbrev main_call0_call3_call0_v32 : Ref sig .tc := ⟨.hbm, 85, rfl⟩
abbrev main_call0_call3_call0_v33 : Ref sig .tc := ⟨.hbm, 86, rfl⟩
abbrev main_call0_call3_call0_v34 : Ref sig .tc := ⟨.hbm, 87, rfl⟩
abbrev main_call0_call3_call0_v35 : Ref sig .tc := ⟨.hbm, 88, rfl⟩
abbrev main_call0_call3_call0_v36 : Ref sig .tc := ⟨.hbm, 89, rfl⟩
abbrev main_call0_call3_call0_v37 : Ref sig .tc := ⟨.hbm, 90, rfl⟩
abbrev main_call0_call3_call0_c_8 : Ref sig .tc := ⟨.hbm, 91, rfl⟩
abbrev main_call0_call3_call0_v38 : Ref sig .tc := ⟨.hbm, 92, rfl⟩
abbrev main_call0_call3_call0_v39 : Ref sig .tc := ⟨.hbm, 93, rfl⟩
abbrev main_call0_call3_call0_v40 : Ref sig .tc := ⟨.hbm, 94, rfl⟩
abbrev main_call0_call3_call0_c_9 : Ref sig .tc := ⟨.hbm, 95, rfl⟩
abbrev main_call0_call3_call0_v41 : Ref sig .tc := ⟨.hbm, 96, rfl⟩
abbrev main_call0_call3_call0_v42 : Ref sig .tc := ⟨.hbm, 97, rfl⟩
abbrev main_call0_call3_call0_c_10 : Ref sig .tc := ⟨.hbm, 98, rfl⟩
abbrev main_call0_call3_call0_v43 : Ref sig .tc := ⟨.hbm, 99, rfl⟩
abbrev main_call0_call3_call0_v44 : Ref sig .tc := ⟨.hbm, 100, rfl⟩
abbrev main_call0_call3_call0_v45 : Ref sig .tc := ⟨.hbm, 101, rfl⟩
abbrev main_call0_call3_call0_v46 : Ref sig .tc := ⟨.hbm, 102, rfl⟩
abbrev main_call0_call3_call0_v47 : Ref sig .tc := ⟨.hbm, 103, rfl⟩
abbrev main_call0_call3_call0_c_11 : Ref sig .tc := ⟨.hbm, 104, rfl⟩
abbrev main_call0_call3_call0_v48 : Ref sig .tc := ⟨.hbm, 105, rfl⟩
abbrev main_call0_call3_call0_v49 : Ref sig .tc := ⟨.hbm, 106, rfl⟩
abbrev main_call0_call3_call0_c_12 : Ref sig .tc := ⟨.hbm, 107, rfl⟩
abbrev main_call0_call3_call0_v50 : Ref sig .tc := ⟨.hbm, 108, rfl⟩
abbrev main_call0_call3_call0_v51 : Ref sig .tc := ⟨.hbm, 109, rfl⟩
abbrev main_call0_call3_call0_v52 : Ref sig .tc := ⟨.hbm, 110, rfl⟩
abbrev main_call0_call3_call0_v53 : Ref sig .tc := ⟨.hbm, 111, rfl⟩
abbrev main_call0_call3_call0_v54 : Ref sig .tc := ⟨.hbm, 112, rfl⟩
abbrev main_call0_call3_call0_c_13 : Ref sig .tc := ⟨.hbm, 113, rfl⟩
abbrev main_call0_call3_call0_v55 : Ref sig .tc := ⟨.hbm, 114, rfl⟩
abbrev main_call0_call3_call0_v56 : Ref sig .tc := ⟨.hbm, 115, rfl⟩
abbrev main_call0_call3_call0_c_14 : Ref sig .tc := ⟨.hbm, 116, rfl⟩
abbrev main_call0_call3_call0_v57 : Ref sig .tc := ⟨.hbm, 117, rfl⟩
abbrev main_call0_call3_call0_v58 : Ref sig .tc := ⟨.hbm, 118, rfl⟩
abbrev main_call0_call3_call0_v59 : Ref sig .tc := ⟨.hbm, 119, rfl⟩
abbrev main_call0_call3_call0_v60 : Ref sig .tc := ⟨.hbm, 120, rfl⟩
abbrev main_call0_call3_call0_v61 : Ref sig .tc := ⟨.hbm, 121, rfl⟩
abbrev main_call0_call3_call0_c_15 : Ref sig .tc := ⟨.hbm, 122, rfl⟩
abbrev main_call0_call3_call0_v62 : Ref sig .tc := ⟨.hbm, 123, rfl⟩
abbrev main_call0_call3_call0_v63 : Ref sig .tc := ⟨.hbm, 124, rfl⟩
abbrev main_call0_call3_call0_c_16 : Ref sig .tc := ⟨.hbm, 125, rfl⟩
abbrev main_call0_call3_call0_v64 : Ref sig .tc := ⟨.hbm, 126, rfl⟩
abbrev main_call0_call3_call0_v65 : Ref sig .tc := ⟨.hbm, 127, rfl⟩
abbrev main_call0_call3_call0_v66 : Ref sig .tc := ⟨.hbm, 128, rfl⟩
abbrev main_call0_call3_call0_v67 : Ref sig .tc := ⟨.hbm, 129, rfl⟩
abbrev main_call0_call3_call0_v68 : Ref sig .tc := ⟨.hbm, 130, rfl⟩
abbrev main_call0_call3_call0_v69 : Ref sig .tc := ⟨.hbm, 131, rfl⟩
abbrev main_call0_call3_call0_v70 : Ref sig .tc := ⟨.hbm, 132, rfl⟩
abbrev main_call0_call3_call0_v71 : Ref sig .tc := ⟨.hbm, 133, rfl⟩
abbrev main_call0_call3_call0_c_17 : Ref sig .tc := ⟨.hbm, 134, rfl⟩
abbrev main_call0_call3_call0_v72 : Ref sig .tc := ⟨.hbm, 135, rfl⟩
abbrev main_call0_call3_call0_v73 : Ref sig .tc := ⟨.hbm, 136, rfl⟩
abbrev main_call0_call3_call0_v74 : Ref sig .tc := ⟨.hbm, 137, rfl⟩
abbrev main_call0_call3_call0_c_18 : Ref sig .tc := ⟨.hbm, 138, rfl⟩
abbrev main_call0_call3_call0_v75 : Ref sig .tc := ⟨.hbm, 139, rfl⟩
abbrev main_call0_call3_call0_v76 : Ref sig .tc := ⟨.hbm, 140, rfl⟩
abbrev main_call0_call3_call0_c_19 : Ref sig .tc := ⟨.hbm, 141, rfl⟩
abbrev main_call0_call3_call0_v77 : Ref sig .tc := ⟨.hbm, 142, rfl⟩
abbrev main_call0_call3_call0_v78 : Ref sig .tc := ⟨.hbm, 143, rfl⟩
abbrev main_call0_call3_call0_v79 : Ref sig .tc := ⟨.hbm, 144, rfl⟩
abbrev main_call0_call3_call0_v80 : Ref sig .tc := ⟨.hbm, 145, rfl⟩
abbrev main_call0_call3_call0_v81 : Ref sig .tc := ⟨.hbm, 146, rfl⟩
abbrev main_call0_call3_call0_c_20 : Ref sig .tc := ⟨.hbm, 147, rfl⟩
abbrev main_call0_call3_call0_v82 : Ref sig .tc := ⟨.hbm, 148, rfl⟩
abbrev main_call0_call3_call0_v83 : Ref sig .tc := ⟨.hbm, 149, rfl⟩
abbrev main_call0_call3_call0_c_21 : Ref sig .tc := ⟨.hbm, 150, rfl⟩
abbrev main_call0_call3_call0_v84 : Ref sig .tc := ⟨.hbm, 151, rfl⟩
abbrev main_call0_call3_call0_v85 : Ref sig .tc := ⟨.hbm, 152, rfl⟩
abbrev main_call0_call3_call0_v86 : Ref sig .tc := ⟨.hbm, 153, rfl⟩
abbrev main_call0_call3_call0_v87 : Ref sig .tc := ⟨.hbm, 154, rfl⟩
abbrev main_call0_call3_call0_v88 : Ref sig .tc := ⟨.hbm, 155, rfl⟩
abbrev main_call0_call3_call0_c_22 : Ref sig .tc := ⟨.hbm, 156, rfl⟩
abbrev main_call0_call3_call0_v89 : Ref sig .tc := ⟨.hbm, 157, rfl⟩
abbrev main_call0_call3_call0_v90 : Ref sig .tc := ⟨.hbm, 158, rfl⟩
abbrev main_call0_call3_call0_c_23 : Ref sig .tc := ⟨.hbm, 159, rfl⟩
abbrev main_call0_call3_call0_v91 : Ref sig .tc := ⟨.hbm, 160, rfl⟩
abbrev main_call0_call3_call0_v92 : Ref sig .tc := ⟨.hbm, 161, rfl⟩
abbrev main_call0_call3_call0_v93 : Ref sig .tc := ⟨.hbm, 162, rfl⟩
abbrev main_call0_call3_call0_v94 : Ref sig .tc := ⟨.hbm, 163, rfl⟩
abbrev main_call0_call3_call0_v95 : Ref sig .tc := ⟨.hbm, 164, rfl⟩
abbrev main_call0_call3_call0_c_24 : Ref sig .tc := ⟨.hbm, 165, rfl⟩
abbrev main_call0_call3_call0_v96 : Ref sig .tc := ⟨.hbm, 166, rfl⟩
abbrev main_call0_call3_call0_v97 : Ref sig .tc := ⟨.hbm, 167, rfl⟩
abbrev main_call0_call3_call0_c_25 : Ref sig .tc := ⟨.hbm, 168, rfl⟩
abbrev main_call0_call3_call0_v98 : Ref sig .tc := ⟨.hbm, 169, rfl⟩
abbrev main_call0_call3_call0_v99 : Ref sig .tc := ⟨.hbm, 170, rfl⟩
abbrev main_call0_call3_call0_v100 : Ref sig .tc := ⟨.hbm, 171, rfl⟩
abbrev main_call0_call3_call0_v101 : Ref sig .tc := ⟨.hbm, 172, rfl⟩
abbrev main_call0_call3_call0_v102 : Ref sig .tc := ⟨.hbm, 173, rfl⟩
abbrev main_call0_call3_call0_v103 : Ref sig .tc := ⟨.hbm, 174, rfl⟩
abbrev main_call0_call3_call0_v104 : Ref sig .tc := ⟨.hbm, 175, rfl⟩
abbrev main_call0_call3_call0_v105 : Ref sig .tc := ⟨.hbm, 176, rfl⟩
abbrev main_call0_call3_call0_c_26 : Ref sig .tc := ⟨.hbm, 177, rfl⟩
abbrev main_call0_call3_call0_v106 : Ref sig .tc := ⟨.hbm, 178, rfl⟩
abbrev main_call0_call3_call0_v107 : Ref sig .tc := ⟨.hbm, 179, rfl⟩
abbrev main_call0_call3_call0_v108 : Ref sig .tc := ⟨.hbm, 180, rfl⟩
abbrev main_call0_call3_call0_c_27 : Ref sig .tc := ⟨.hbm, 181, rfl⟩
abbrev main_call0_call3_call0_v109 : Ref sig .tc := ⟨.hbm, 182, rfl⟩
abbrev main_call0_call3_call0_v110 : Ref sig .tc := ⟨.hbm, 183, rfl⟩
abbrev main_call0_call3_call0_c_28 : Ref sig .tc := ⟨.hbm, 184, rfl⟩
abbrev main_call0_call3_call0_v111 : Ref sig .tc := ⟨.hbm, 185, rfl⟩
abbrev main_call0_call3_call0_v112 : Ref sig .tc := ⟨.hbm, 186, rfl⟩
abbrev main_call0_call3_call0_v113 : Ref sig .tc := ⟨.hbm, 187, rfl⟩
abbrev main_call0_call3_call0_v114 : Ref sig .tc := ⟨.hbm, 188, rfl⟩
abbrev main_call0_call3_call0_v115 : Ref sig .tc := ⟨.hbm, 189, rfl⟩
abbrev main_call0_call3_call0_c_29 : Ref sig .tc := ⟨.hbm, 190, rfl⟩
abbrev main_call0_call3_call0_v116 : Ref sig .tc := ⟨.hbm, 191, rfl⟩
abbrev main_call0_call3_call0_v117 : Ref sig .tc := ⟨.hbm, 192, rfl⟩
abbrev main_call0_call3_call0_c_30 : Ref sig .tc := ⟨.hbm, 193, rfl⟩
abbrev main_call0_call3_call0_v118 : Ref sig .tc := ⟨.hbm, 194, rfl⟩
abbrev main_call0_call3_call0_v119 : Ref sig .tc := ⟨.hbm, 195, rfl⟩
abbrev main_call0_call3_call0_v120 : Ref sig .tc := ⟨.hbm, 196, rfl⟩
abbrev main_call0_call3_call0_v121 : Ref sig .tc := ⟨.hbm, 197, rfl⟩
abbrev main_call0_call3_call0_v122 : Ref sig .tc := ⟨.hbm, 198, rfl⟩
abbrev main_call0_call3_call0_c_31 : Ref sig .tc := ⟨.hbm, 199, rfl⟩
abbrev main_call0_call3_call0_v123 : Ref sig .tc := ⟨.hbm, 200, rfl⟩
abbrev main_call0_call3_call0_v124 : Ref sig .tc := ⟨.hbm, 201, rfl⟩
abbrev main_call0_call3_call0_c_32 : Ref sig .tc := ⟨.hbm, 202, rfl⟩
abbrev main_call0_call3_call0_v125 : Ref sig .tc := ⟨.hbm, 203, rfl⟩
abbrev main_call0_call3_call0_v126 : Ref sig .tc := ⟨.hbm, 204, rfl⟩
abbrev main_call0_call3_call0_v127 : Ref sig .tc := ⟨.hbm, 205, rfl⟩
abbrev main_call0_call3_call0_v128 : Ref sig .tc := ⟨.hbm, 206, rfl⟩
abbrev main_call0_call3_call0_v129 : Ref sig .tc := ⟨.hbm, 207, rfl⟩
abbrev main_call0_call3_call0_c_33 : Ref sig .tc := ⟨.hbm, 208, rfl⟩
abbrev main_call0_call3_call0_v130 : Ref sig .tc := ⟨.hbm, 209, rfl⟩
abbrev main_call0_call3_call0_v131 : Ref sig .tc := ⟨.hbm, 210, rfl⟩
abbrev main_call0_call3_call0_c_34 : Ref sig .tc := ⟨.hbm, 211, rfl⟩
abbrev main_call0_call3_call0_v132 : Ref sig .tc := ⟨.hbm, 212, rfl⟩
abbrev main_call0_call3_call0_v133 : Ref sig .tc := ⟨.hbm, 213, rfl⟩
abbrev main_call0_call3_call0_v134 : Ref sig .tc := ⟨.hbm, 214, rfl⟩
abbrev main_call0_call3_call0_v135 : Ref sig .tc := ⟨.hbm, 215, rfl⟩
abbrev main_call0_call3_call0_v136 : Ref sig .tc := ⟨.hbm, 216, rfl⟩
abbrev main_call0_call3_call0_v137 : Ref sig .tc := ⟨.hbm, 217, rfl⟩
abbrev main_call0_call3_call0_v138 : Ref sig .tc := ⟨.hbm, 218, rfl⟩
abbrev main_call0_call3_call0_v139 : Ref sig .tc := ⟨.hbm, 219, rfl⟩
abbrev main_call0_call3_call0_c_35 : Ref sig .tc := ⟨.hbm, 220, rfl⟩
abbrev main_call0_call3_call0_v140 : Ref sig .tc := ⟨.hbm, 221, rfl⟩
abbrev main_call0_call3_call0_v141 : Ref sig .tc := ⟨.hbm, 222, rfl⟩
abbrev main_call0_call3_call0_v142 : Ref sig .tc := ⟨.hbm, 223, rfl⟩
abbrev main_call0_call3_call0_c_36 : Ref sig .tc := ⟨.hbm, 224, rfl⟩
abbrev main_call0_call3_call0_v143 : Ref sig .tc := ⟨.hbm, 225, rfl⟩
abbrev main_call0_call3_call0_v144 : Ref sig .tc := ⟨.hbm, 226, rfl⟩
abbrev main_call0_call3_call0_c_37 : Ref sig .tc := ⟨.hbm, 227, rfl⟩
abbrev main_call0_call3_call0_v145 : Ref sig .tc := ⟨.hbm, 228, rfl⟩
abbrev main_call0_call3_call0_v146 : Ref sig .tc := ⟨.hbm, 229, rfl⟩
abbrev main_call0_call3_call0_v147 : Ref sig .tc := ⟨.hbm, 230, rfl⟩
abbrev main_call0_call3_call0_v148 : Ref sig .tc := ⟨.hbm, 231, rfl⟩
abbrev main_call0_call3_call0_v149 : Ref sig .tc := ⟨.hbm, 232, rfl⟩
abbrev main_call0_call3_call0_c_38 : Ref sig .tc := ⟨.hbm, 233, rfl⟩
abbrev main_call0_call3_call0_v150 : Ref sig .tc := ⟨.hbm, 234, rfl⟩
abbrev main_call0_call3_call0_v151 : Ref sig .tc := ⟨.hbm, 235, rfl⟩
abbrev main_call0_call3_call0_c_39 : Ref sig .tc := ⟨.hbm, 236, rfl⟩
abbrev main_call0_call3_call0_v152 : Ref sig .tc := ⟨.hbm, 237, rfl⟩
abbrev main_call0_call3_call0_v153 : Ref sig .tc := ⟨.hbm, 238, rfl⟩
abbrev main_call0_call3_call0_v154 : Ref sig .tc := ⟨.hbm, 239, rfl⟩
abbrev main_call0_call3_call0_v155 : Ref sig .tc := ⟨.hbm, 240, rfl⟩
abbrev main_call0_call3_call0_v156 : Ref sig .tc := ⟨.hbm, 241, rfl⟩
abbrev main_call0_call3_call0_c_40 : Ref sig .tc := ⟨.hbm, 242, rfl⟩
abbrev main_call0_call3_call0_v157 : Ref sig .tc := ⟨.hbm, 243, rfl⟩
abbrev main_call0_call3_call0_v158 : Ref sig .tc := ⟨.hbm, 244, rfl⟩
abbrev main_call0_call3_call0_c_41 : Ref sig .tc := ⟨.hbm, 245, rfl⟩
abbrev main_call0_call3_call0_v159 : Ref sig .tc := ⟨.hbm, 246, rfl⟩
abbrev main_call0_call3_call0_v160 : Ref sig .tc := ⟨.hbm, 247, rfl⟩
abbrev main_call0_call3_call0_v161 : Ref sig .tc := ⟨.hbm, 248, rfl⟩
abbrev main_call0_call3_call0_v162 : Ref sig .tc := ⟨.hbm, 249, rfl⟩
abbrev main_call0_call3_call0_v163 : Ref sig .tc := ⟨.hbm, 250, rfl⟩
abbrev main_call0_call3_call0_c_42 : Ref sig .tc := ⟨.hbm, 251, rfl⟩
abbrev main_call0_call3_call0_v164 : Ref sig .tc := ⟨.hbm, 252, rfl⟩
abbrev main_call0_call3_call0_v165 : Ref sig .tc := ⟨.hbm, 253, rfl⟩
abbrev main_call0_call3_call0_c_43 : Ref sig .tc := ⟨.hbm, 254, rfl⟩
abbrev main_call0_call3_call0_v166 : Ref sig .tc := ⟨.hbm, 255, rfl⟩
abbrev main_call0_call3_call0_v167 : Ref sig .tc := ⟨.hbm, 256, rfl⟩
abbrev main_call0_call3_call0_v168 : Ref sig .tc := ⟨.hbm, 257, rfl⟩
abbrev main_call0_call3_call0_v169 : Ref sig .tc := ⟨.hbm, 258, rfl⟩
abbrev main_call0_call3_call0_v170 : Ref sig .tc := ⟨.hbm, 259, rfl⟩
abbrev main_call0_call3_v11_0 : Ref sig .tc := ⟨.hbm, 260, rfl⟩
abbrev main_call0_call3_call0_v172 : Ref sig .tc := ⟨.hbm, 261, rfl⟩
abbrev main_call0_call3_call0_v173 : Ref sig .tc := ⟨.hbm, 262, rfl⟩
abbrev main_call0_call3_call0_c_44 : Ref sig .tc := ⟨.hbm, 263, rfl⟩
abbrev main_call0_call3_call0_v174 : Ref sig .tc := ⟨.hbm, 264, rfl⟩
abbrev main_call0_call3_v11_1 : Ref sig .tc := ⟨.hbm, 265, rfl⟩
abbrev main_call0_call3_v12 : Ref sig .tc := ⟨.hbm, 266, rfl⟩
abbrev main_call0_call3_v13 : Ref sig .tc := ⟨.hbm, 267, rfl⟩
abbrev main_call0_v8 : Ref sig .tc := ⟨.hbm, 268, rfl⟩
abbrev main_call0_v9 : Ref sig .tc := ⟨.hbm, 269, rfl⟩
abbrev main_call0_v10 : Ref sig .tc := ⟨.hbm, 270, rfl⟩
abbrev main_call0_v11 : Ref sig .tc := ⟨.hbm, 271, rfl⟩
abbrev main_call0_v12 : Ref sig .tc := ⟨.hbm, 272, rfl⟩
abbrev main_call0_v13 : Ref sig .tc := ⟨.hbm, 273, rfl⟩
abbrev main_call0_v14 : Ref sig .tc := ⟨.hbm, 274, rfl⟩
abbrev main_call0_v15 : Ref sig .tc := ⟨.hbm, 275, rfl⟩
abbrev main_call0_v16 : Ref sig .tc := ⟨.hbm, 276, rfl⟩
abbrev main_call0_v17 : Ref sig .tc := ⟨.hbm, 277, rfl⟩
abbrev main_call0_c_6 : Ref sig .tc := ⟨.hbm, 278, rfl⟩
abbrev main_call0_v18 : Ref sig .tc := ⟨.hbm, 279, rfl⟩
abbrev main_call0_v19 : Ref sig .tc := ⟨.hbm, 280, rfl⟩
abbrev main_call0_c_7 : Ref sig .tc := ⟨.hbm, 281, rfl⟩
abbrev main_call0_v20 : Ref sig .tc := ⟨.hbm, 282, rfl⟩
abbrev main_call0_v21 : Ref sig .tc := ⟨.hbm, 283, rfl⟩
abbrev main_call0_v22 : Ref sig .tc := ⟨.hbm, 284, rfl⟩
abbrev main_call0_v23 : Ref sig .tc := ⟨.hbm, 285, rfl⟩
abbrev main_call0_call4_v0 : Ref sig .tc := ⟨.hbm, 286, rfl⟩
abbrev main_call0_call4_c : Ref sig .tc := ⟨.hbm, 287, rfl⟩
abbrev main_call0_call4_v1 : Ref sig .tc := ⟨.hbm, 288, rfl⟩
abbrev main_call0_call4_v2 : Ref sig .tc := ⟨.hbm, 289, rfl⟩
abbrev main_call0_call4_v3 : Ref sig .tc := ⟨.hbm, 290, rfl⟩
abbrev main_call0_call4_v4 : Ref sig .tc := ⟨.hbm, 291, rfl⟩
abbrev main_call0_call4_v5 : Ref sig .tc := ⟨.hbm, 292, rfl⟩
abbrev main_call0_call4_v6 : Ref sig .tc := ⟨.hbm, 293, rfl⟩
abbrev main_call0_call4_c_0 : Ref sig .tc := ⟨.hbm, 294, rfl⟩
abbrev main_call0_call4_v7 : Ref sig .tc := ⟨.hbm, 295, rfl⟩
abbrev main_call0_call4_v8 : Ref sig .tc := ⟨.hbm, 296, rfl⟩
abbrev main_call0_call4_c_1 : Ref sig .tc := ⟨.hbm, 297, rfl⟩
abbrev main_call0_call4_v9 : Ref sig .tc := ⟨.hbm, 298, rfl⟩
abbrev main_call0_call4_v10 : Ref sig .tc := ⟨.hbm, 299, rfl⟩
abbrev main_call0_call4_v11 : Ref sig .tc := ⟨.hbm, 300, rfl⟩
abbrev main_call0_call4_v12 : Ref sig .tc := ⟨.hbm, 301, rfl⟩
abbrev main_call0_call4_v13 : Ref sig .tc := ⟨.hbm, 302, rfl⟩
abbrev main_call0_call4_c_2 : Ref sig .tc := ⟨.hbm, 303, rfl⟩
abbrev main_call0_call4_v14 : Ref sig .tc := ⟨.hbm, 304, rfl⟩
abbrev main_call0_call4_v15 : Ref sig .tc := ⟨.hbm, 305, rfl⟩
abbrev main_call0_call4_c_3 : Ref sig .tc := ⟨.hbm, 306, rfl⟩
abbrev main_call0_call4_v16 : Ref sig .tc := ⟨.hbm, 307, rfl⟩
abbrev main_call0_call4_v17 : Ref sig .tc := ⟨.hbm, 308, rfl⟩
abbrev main_call0_call4_v18 : Ref sig .tc := ⟨.hbm, 309, rfl⟩
abbrev main_call0_call4_v19 : Ref sig .tc := ⟨.hbm, 310, rfl⟩
abbrev main_call0_call4_v20 : Ref sig .tc := ⟨.hbm, 311, rfl⟩
abbrev main_call0_call4_c_4 : Ref sig .tc := ⟨.hbm, 312, rfl⟩
abbrev main_call0_call4_v21 : Ref sig .tc := ⟨.hbm, 313, rfl⟩
abbrev main_call0_call4_v22 : Ref sig .tc := ⟨.hbm, 314, rfl⟩
abbrev main_call0_call4_c_5 : Ref sig .tc := ⟨.hbm, 315, rfl⟩
abbrev main_call0_call4_v23 : Ref sig .tc := ⟨.hbm, 316, rfl⟩
abbrev main_call0_call4_v24 : Ref sig .tc := ⟨.hbm, 317, rfl⟩
abbrev main_call0_call4_v25 : Ref sig .tc := ⟨.hbm, 318, rfl⟩
abbrev main_call0_call4_v26 : Ref sig .tc := ⟨.hbm, 319, rfl⟩
abbrev main_call0_call4_v27 : Ref sig .tc := ⟨.hbm, 320, rfl⟩
abbrev main_call0_call4_c_6 : Ref sig .tc := ⟨.hbm, 321, rfl⟩
abbrev main_call0_call4_v28 : Ref sig .tc := ⟨.hbm, 322, rfl⟩
abbrev main_call0_call4_v29 : Ref sig .tc := ⟨.hbm, 323, rfl⟩
abbrev main_call0_call4_c_7 : Ref sig .tc := ⟨.hbm, 324, rfl⟩
abbrev main_call0_call4_v30 : Ref sig .tc := ⟨.hbm, 325, rfl⟩
abbrev main_call0_call4_v31 : Ref sig .tc := ⟨.hbm, 326, rfl⟩
abbrev main_call0_call4_v32 : Ref sig .tc := ⟨.hbm, 327, rfl⟩
abbrev main_call0_call4_v33 : Ref sig .tc := ⟨.hbm, 328, rfl⟩
abbrev main_call0_call4_v34 : Ref sig .tc := ⟨.hbm, 329, rfl⟩
abbrev main_call0_call4_v35 : Ref sig .tc := ⟨.hbm, 330, rfl⟩
abbrev main_call0_call4_v36 : Ref sig .tc := ⟨.hbm, 331, rfl⟩
abbrev main_call0_call4_v37 : Ref sig .tc := ⟨.hbm, 332, rfl⟩
abbrev main_call0_call4_c_8 : Ref sig .tc := ⟨.hbm, 333, rfl⟩
abbrev main_call0_call4_v38 : Ref sig .tc := ⟨.hbm, 334, rfl⟩
abbrev main_call0_call4_v39 : Ref sig .tc := ⟨.hbm, 335, rfl⟩
abbrev main_call0_call4_v40 : Ref sig .tc := ⟨.hbm, 336, rfl⟩
abbrev main_call0_call4_c_9 : Ref sig .tc := ⟨.hbm, 337, rfl⟩
abbrev main_call0_call4_v41 : Ref sig .tc := ⟨.hbm, 338, rfl⟩
abbrev main_call0_call4_v42 : Ref sig .tc := ⟨.hbm, 339, rfl⟩
abbrev main_call0_call4_c_10 : Ref sig .tc := ⟨.hbm, 340, rfl⟩
abbrev main_call0_call4_v43 : Ref sig .tc := ⟨.hbm, 341, rfl⟩
abbrev main_call0_call4_v44 : Ref sig .tc := ⟨.hbm, 342, rfl⟩
abbrev main_call0_call4_v45 : Ref sig .tc := ⟨.hbm, 343, rfl⟩
abbrev main_call0_call4_v46 : Ref sig .tc := ⟨.hbm, 344, rfl⟩
abbrev main_call0_call4_v47 : Ref sig .tc := ⟨.hbm, 345, rfl⟩
abbrev main_call0_call4_c_11 : Ref sig .tc := ⟨.hbm, 346, rfl⟩
abbrev main_call0_call4_v48 : Ref sig .tc := ⟨.hbm, 347, rfl⟩
abbrev main_call0_call4_v49 : Ref sig .tc := ⟨.hbm, 348, rfl⟩
abbrev main_call0_call4_c_12 : Ref sig .tc := ⟨.hbm, 349, rfl⟩
abbrev main_call0_call4_v50 : Ref sig .tc := ⟨.hbm, 350, rfl⟩
abbrev main_call0_call4_v51 : Ref sig .tc := ⟨.hbm, 351, rfl⟩
abbrev main_call0_call4_v52 : Ref sig .tc := ⟨.hbm, 352, rfl⟩
abbrev main_call0_call4_v53 : Ref sig .tc := ⟨.hbm, 353, rfl⟩
abbrev main_call0_call4_v54 : Ref sig .tc := ⟨.hbm, 354, rfl⟩
abbrev main_call0_call4_c_13 : Ref sig .tc := ⟨.hbm, 355, rfl⟩
abbrev main_call0_call4_v55 : Ref sig .tc := ⟨.hbm, 356, rfl⟩
abbrev main_call0_call4_v56 : Ref sig .tc := ⟨.hbm, 357, rfl⟩
abbrev main_call0_call4_c_14 : Ref sig .tc := ⟨.hbm, 358, rfl⟩
abbrev main_call0_call4_v57 : Ref sig .tc := ⟨.hbm, 359, rfl⟩
abbrev main_call0_call4_v58 : Ref sig .tc := ⟨.hbm, 360, rfl⟩
abbrev main_call0_call4_v59 : Ref sig .tc := ⟨.hbm, 361, rfl⟩
abbrev main_call0_call4_v60 : Ref sig .tc := ⟨.hbm, 362, rfl⟩
abbrev main_call0_call4_v61 : Ref sig .tc := ⟨.hbm, 363, rfl⟩
abbrev main_call0_call4_c_15 : Ref sig .tc := ⟨.hbm, 364, rfl⟩
abbrev main_call0_call4_v62 : Ref sig .tc := ⟨.hbm, 365, rfl⟩
abbrev main_call0_call4_v63 : Ref sig .tc := ⟨.hbm, 366, rfl⟩
abbrev main_call0_call4_c_16 : Ref sig .tc := ⟨.hbm, 367, rfl⟩
abbrev main_call0_call4_v64 : Ref sig .tc := ⟨.hbm, 368, rfl⟩
abbrev main_call0_call4_v65 : Ref sig .tc := ⟨.hbm, 369, rfl⟩
abbrev main_call0_call4_v66 : Ref sig .tc := ⟨.hbm, 370, rfl⟩
abbrev main_call0_call4_v67 : Ref sig .tc := ⟨.hbm, 371, rfl⟩
abbrev main_call0_call4_v68 : Ref sig .tc := ⟨.hbm, 372, rfl⟩
abbrev main_call0_call4_v69 : Ref sig .tc := ⟨.hbm, 373, rfl⟩
abbrev main_call0_call4_v70 : Ref sig .tc := ⟨.hbm, 374, rfl⟩
abbrev main_call0_call4_v71 : Ref sig .tc := ⟨.hbm, 375, rfl⟩
abbrev main_call0_call4_c_17 : Ref sig .tc := ⟨.hbm, 376, rfl⟩
abbrev main_call0_call4_v72 : Ref sig .tc := ⟨.hbm, 377, rfl⟩
abbrev main_call0_call4_v73 : Ref sig .tc := ⟨.hbm, 378, rfl⟩
abbrev main_call0_call4_v74 : Ref sig .tc := ⟨.hbm, 379, rfl⟩
abbrev main_call0_call4_c_18 : Ref sig .tc := ⟨.hbm, 380, rfl⟩
abbrev main_call0_call4_v75 : Ref sig .tc := ⟨.hbm, 381, rfl⟩
abbrev main_call0_call4_v76 : Ref sig .tc := ⟨.hbm, 382, rfl⟩
abbrev main_call0_call4_c_19 : Ref sig .tc := ⟨.hbm, 383, rfl⟩
abbrev main_call0_call4_v77 : Ref sig .tc := ⟨.hbm, 384, rfl⟩
abbrev main_call0_call4_v78 : Ref sig .tc := ⟨.hbm, 385, rfl⟩
abbrev main_call0_call4_v79 : Ref sig .tc := ⟨.hbm, 386, rfl⟩
abbrev main_call0_call4_v80 : Ref sig .tc := ⟨.hbm, 387, rfl⟩
abbrev main_call0_call4_v81 : Ref sig .tc := ⟨.hbm, 388, rfl⟩
abbrev main_call0_call4_c_20 : Ref sig .tc := ⟨.hbm, 389, rfl⟩
abbrev main_call0_call4_v82 : Ref sig .tc := ⟨.hbm, 390, rfl⟩
abbrev main_call0_call4_v83 : Ref sig .tc := ⟨.hbm, 391, rfl⟩
abbrev main_call0_call4_c_21 : Ref sig .tc := ⟨.hbm, 392, rfl⟩
abbrev main_call0_call4_v84 : Ref sig .tc := ⟨.hbm, 393, rfl⟩
abbrev main_call0_call4_v85 : Ref sig .tc := ⟨.hbm, 394, rfl⟩
abbrev main_call0_call4_v86 : Ref sig .tc := ⟨.hbm, 395, rfl⟩
abbrev main_call0_call4_v87 : Ref sig .tc := ⟨.hbm, 396, rfl⟩
abbrev main_call0_call4_v88 : Ref sig .tc := ⟨.hbm, 397, rfl⟩
abbrev main_call0_call4_c_22 : Ref sig .tc := ⟨.hbm, 398, rfl⟩
abbrev main_call0_call4_v89 : Ref sig .tc := ⟨.hbm, 399, rfl⟩
abbrev main_call0_call4_v90 : Ref sig .tc := ⟨.hbm, 400, rfl⟩
abbrev main_call0_call4_c_23 : Ref sig .tc := ⟨.hbm, 401, rfl⟩
abbrev main_call0_call4_v91 : Ref sig .tc := ⟨.hbm, 402, rfl⟩
abbrev main_call0_call4_v92 : Ref sig .tc := ⟨.hbm, 403, rfl⟩
abbrev main_call0_call4_v93 : Ref sig .tc := ⟨.hbm, 404, rfl⟩
abbrev main_call0_call4_v94 : Ref sig .tc := ⟨.hbm, 405, rfl⟩
abbrev main_call0_call4_v95 : Ref sig .tc := ⟨.hbm, 406, rfl⟩
abbrev main_call0_call4_c_24 : Ref sig .tc := ⟨.hbm, 407, rfl⟩
abbrev main_call0_call4_v96 : Ref sig .tc := ⟨.hbm, 408, rfl⟩
abbrev main_call0_call4_v97 : Ref sig .tc := ⟨.hbm, 409, rfl⟩
abbrev main_call0_call4_c_25 : Ref sig .tc := ⟨.hbm, 410, rfl⟩
abbrev main_call0_call4_v98 : Ref sig .tc := ⟨.hbm, 411, rfl⟩
abbrev main_call0_call4_v99 : Ref sig .tc := ⟨.hbm, 412, rfl⟩
abbrev main_call0_call4_v100 : Ref sig .tc := ⟨.hbm, 413, rfl⟩
abbrev main_call0_call4_v101 : Ref sig .tc := ⟨.hbm, 414, rfl⟩
abbrev main_call0_call4_v102 : Ref sig .tc := ⟨.hbm, 415, rfl⟩
abbrev main_call0_call4_v103 : Ref sig .tc := ⟨.hbm, 416, rfl⟩
abbrev main_call0_call4_v104 : Ref sig .tc := ⟨.hbm, 417, rfl⟩
abbrev main_call0_call4_v105 : Ref sig .tc := ⟨.hbm, 418, rfl⟩
abbrev main_call0_call4_c_26 : Ref sig .tc := ⟨.hbm, 419, rfl⟩
abbrev main_call0_call4_v106 : Ref sig .tc := ⟨.hbm, 420, rfl⟩
abbrev main_call0_call4_v107 : Ref sig .tc := ⟨.hbm, 421, rfl⟩
abbrev main_call0_call4_v108 : Ref sig .tc := ⟨.hbm, 422, rfl⟩
abbrev main_call0_call4_c_27 : Ref sig .tc := ⟨.hbm, 423, rfl⟩
abbrev main_call0_call4_v109 : Ref sig .tc := ⟨.hbm, 424, rfl⟩
abbrev main_call0_call4_v110 : Ref sig .tc := ⟨.hbm, 425, rfl⟩
abbrev main_call0_call4_c_28 : Ref sig .tc := ⟨.hbm, 426, rfl⟩
abbrev main_call0_call4_v111 : Ref sig .tc := ⟨.hbm, 427, rfl⟩
abbrev main_call0_call4_v112 : Ref sig .tc := ⟨.hbm, 428, rfl⟩
abbrev main_call0_call4_v113 : Ref sig .tc := ⟨.hbm, 429, rfl⟩
abbrev main_call0_call4_v114 : Ref sig .tc := ⟨.hbm, 430, rfl⟩
abbrev main_call0_call4_v115 : Ref sig .tc := ⟨.hbm, 431, rfl⟩
abbrev main_call0_call4_c_29 : Ref sig .tc := ⟨.hbm, 432, rfl⟩
abbrev main_call0_call4_v116 : Ref sig .tc := ⟨.hbm, 433, rfl⟩
abbrev main_call0_call4_v117 : Ref sig .tc := ⟨.hbm, 434, rfl⟩
abbrev main_call0_call4_c_30 : Ref sig .tc := ⟨.hbm, 435, rfl⟩
abbrev main_call0_call4_v118 : Ref sig .tc := ⟨.hbm, 436, rfl⟩
abbrev main_call0_call4_v119 : Ref sig .tc := ⟨.hbm, 437, rfl⟩
abbrev main_call0_call4_v120 : Ref sig .tc := ⟨.hbm, 438, rfl⟩
abbrev main_call0_call4_v121 : Ref sig .tc := ⟨.hbm, 439, rfl⟩
abbrev main_call0_call4_v122 : Ref sig .tc := ⟨.hbm, 440, rfl⟩
abbrev main_call0_call4_c_31 : Ref sig .tc := ⟨.hbm, 441, rfl⟩
abbrev main_call0_call4_v123 : Ref sig .tc := ⟨.hbm, 442, rfl⟩
abbrev main_call0_call4_v124 : Ref sig .tc := ⟨.hbm, 443, rfl⟩
abbrev main_call0_call4_c_32 : Ref sig .tc := ⟨.hbm, 444, rfl⟩
abbrev main_call0_call4_v125 : Ref sig .tc := ⟨.hbm, 445, rfl⟩
abbrev main_call0_call4_v126 : Ref sig .tc := ⟨.hbm, 446, rfl⟩
abbrev main_call0_call4_v127 : Ref sig .tc := ⟨.hbm, 447, rfl⟩
abbrev main_call0_call4_v128 : Ref sig .tc := ⟨.hbm, 448, rfl⟩
abbrev main_call0_call4_v129 : Ref sig .tc := ⟨.hbm, 449, rfl⟩
abbrev main_call0_call4_c_33 : Ref sig .tc := ⟨.hbm, 450, rfl⟩
abbrev main_call0_call4_v130 : Ref sig .tc := ⟨.hbm, 451, rfl⟩
abbrev main_call0_call4_v131 : Ref sig .tc := ⟨.hbm, 452, rfl⟩
abbrev main_call0_call4_c_34 : Ref sig .tc := ⟨.hbm, 453, rfl⟩
abbrev main_call0_call4_v132 : Ref sig .tc := ⟨.hbm, 454, rfl⟩
abbrev main_call0_call4_v133 : Ref sig .tc := ⟨.hbm, 455, rfl⟩
abbrev main_call0_call4_v134 : Ref sig .tc := ⟨.hbm, 456, rfl⟩
abbrev main_call0_call4_v135 : Ref sig .tc := ⟨.hbm, 457, rfl⟩
abbrev main_call0_call4_v136 : Ref sig .tc := ⟨.hbm, 458, rfl⟩
abbrev main_call0_call4_v137 : Ref sig .tc := ⟨.hbm, 459, rfl⟩
abbrev main_call0_call4_v138 : Ref sig .tc := ⟨.hbm, 460, rfl⟩
abbrev main_call0_call4_v139 : Ref sig .tc := ⟨.hbm, 461, rfl⟩
abbrev main_call0_call4_c_35 : Ref sig .tc := ⟨.hbm, 462, rfl⟩
abbrev main_call0_call4_v140 : Ref sig .tc := ⟨.hbm, 463, rfl⟩
abbrev main_call0_call4_v141 : Ref sig .tc := ⟨.hbm, 464, rfl⟩
abbrev main_call0_call4_v142 : Ref sig .tc := ⟨.hbm, 465, rfl⟩
abbrev main_call0_call4_c_36 : Ref sig .tc := ⟨.hbm, 466, rfl⟩
abbrev main_call0_call4_v143 : Ref sig .tc := ⟨.hbm, 467, rfl⟩
abbrev main_call0_call4_v144 : Ref sig .tc := ⟨.hbm, 468, rfl⟩
abbrev main_call0_call4_c_37 : Ref sig .tc := ⟨.hbm, 469, rfl⟩
abbrev main_call0_call4_v145 : Ref sig .tc := ⟨.hbm, 470, rfl⟩
abbrev main_call0_call4_v146 : Ref sig .tc := ⟨.hbm, 471, rfl⟩
abbrev main_call0_call4_v147 : Ref sig .tc := ⟨.hbm, 472, rfl⟩
abbrev main_call0_call4_v148 : Ref sig .tc := ⟨.hbm, 473, rfl⟩
abbrev main_call0_call4_v149 : Ref sig .tc := ⟨.hbm, 474, rfl⟩
abbrev main_call0_call4_c_38 : Ref sig .tc := ⟨.hbm, 475, rfl⟩
abbrev main_call0_call4_v150 : Ref sig .tc := ⟨.hbm, 476, rfl⟩
abbrev main_call0_call4_v151 : Ref sig .tc := ⟨.hbm, 477, rfl⟩
abbrev main_call0_call4_c_39 : Ref sig .tc := ⟨.hbm, 478, rfl⟩
abbrev main_call0_call4_v152 : Ref sig .tc := ⟨.hbm, 479, rfl⟩
abbrev main_call0_call4_v153 : Ref sig .tc := ⟨.hbm, 480, rfl⟩
abbrev main_call0_call4_v154 : Ref sig .tc := ⟨.hbm, 481, rfl⟩
abbrev main_call0_call4_v155 : Ref sig .tc := ⟨.hbm, 482, rfl⟩
abbrev main_call0_call4_v156 : Ref sig .tc := ⟨.hbm, 483, rfl⟩
abbrev main_call0_call4_c_40 : Ref sig .tc := ⟨.hbm, 484, rfl⟩
abbrev main_call0_call4_v157 : Ref sig .tc := ⟨.hbm, 485, rfl⟩
abbrev main_call0_call4_v158 : Ref sig .tc := ⟨.hbm, 486, rfl⟩
abbrev main_call0_call4_c_41 : Ref sig .tc := ⟨.hbm, 487, rfl⟩
abbrev main_call0_call4_v159 : Ref sig .tc := ⟨.hbm, 488, rfl⟩
abbrev main_call0_call4_v160 : Ref sig .tc := ⟨.hbm, 489, rfl⟩
abbrev main_call0_call4_v161 : Ref sig .tc := ⟨.hbm, 490, rfl⟩
abbrev main_call0_call4_v162 : Ref sig .tc := ⟨.hbm, 491, rfl⟩
abbrev main_call0_call4_v163 : Ref sig .tc := ⟨.hbm, 492, rfl⟩
abbrev main_call0_call4_c_42 : Ref sig .tc := ⟨.hbm, 493, rfl⟩
abbrev main_call0_call4_v164 : Ref sig .tc := ⟨.hbm, 494, rfl⟩
abbrev main_call0_call4_v165 : Ref sig .tc := ⟨.hbm, 495, rfl⟩
abbrev main_call0_call4_c_43 : Ref sig .tc := ⟨.hbm, 496, rfl⟩
abbrev main_call0_call4_v166 : Ref sig .tc := ⟨.hbm, 497, rfl⟩
abbrev main_call0_call4_v167 : Ref sig .tc := ⟨.hbm, 498, rfl⟩
abbrev main_call0_call4_v168 : Ref sig .tc := ⟨.hbm, 499, rfl⟩
abbrev main_call0_call4_v169 : Ref sig .tc := ⟨.hbm, 500, rfl⟩
abbrev main_call0_call4_v170 : Ref sig .tc := ⟨.hbm, 501, rfl⟩
abbrev main_call0_v24_0 : Ref sig .tc := ⟨.hbm, 502, rfl⟩
abbrev main_call0_call4_v172 : Ref sig .tc := ⟨.hbm, 503, rfl⟩
abbrev main_call0_call4_v173 : Ref sig .tc := ⟨.hbm, 504, rfl⟩
abbrev main_call0_call4_c_44 : Ref sig .tc := ⟨.hbm, 505, rfl⟩
abbrev main_call0_call4_v174 : Ref sig .tc := ⟨.hbm, 506, rfl⟩
abbrev main_call0_v24_1 : Ref sig .tc := ⟨.hbm, 507, rfl⟩
abbrev main_call0_v25 : Ref sig .tc := ⟨.hbm, 508, rfl⟩
abbrev main_call0_v26 : Ref sig .tc := ⟨.hbm, 509, rfl⟩
abbrev main_call0_v27 : Ref sig .tc := ⟨.hbm, 510, rfl⟩
abbrev main_call0_v28 : Ref sig .tc := ⟨.hbm, 511, rfl⟩
abbrev main_call0_v29 : Ref sig .tc := ⟨.hbm, 512, rfl⟩
abbrev main_call0_v30 : Ref sig .tc := ⟨.hbm, 513, rfl⟩
abbrev main_call0_c_8 : Ref sig .tc := ⟨.hbm, 514, rfl⟩
abbrev main_call0_v31 : Ref sig .tc := ⟨.hbm, 515, rfl⟩
abbrev main_call0_v32 : Ref sig .tc := ⟨.hbm, 516, rfl⟩
abbrev main_call0_c_9 : Ref sig .tc := ⟨.hbm, 517, rfl⟩
abbrev main_call0_v33 : Ref sig .tc := ⟨.hbm, 518, rfl⟩
abbrev main_call0_v34 : Ref sig .tc := ⟨.hbm, 519, rfl⟩
abbrev main_call0_v35 : Ref sig .tc := ⟨.hbm, 520, rfl⟩
abbrev main_call0_v36 : Ref sig .tc := ⟨.hbm, 521, rfl⟩
abbrev main_call0_call5_v0 : Ref sig .tc := ⟨.hbm, 522, rfl⟩
abbrev main_call0_call5_c : Ref sig .tc := ⟨.hbm, 523, rfl⟩
abbrev main_call0_call5_v1 : Ref sig .tc := ⟨.hbm, 524, rfl⟩
abbrev main_call0_call5_v2 : Ref sig .tc := ⟨.hbm, 525, rfl⟩
abbrev main_call0_call5_v3 : Ref sig .tc := ⟨.hbm, 526, rfl⟩
abbrev main_call0_call5_v4 : Ref sig .tc := ⟨.hbm, 527, rfl⟩
abbrev main_call0_call5_v5 : Ref sig .tc := ⟨.hbm, 528, rfl⟩
abbrev main_call0_call5_v6 : Ref sig .tc := ⟨.hbm, 529, rfl⟩
abbrev main_call0_call5_c_0 : Ref sig .tc := ⟨.hbm, 530, rfl⟩
abbrev main_call0_call5_v7 : Ref sig .tc := ⟨.hbm, 531, rfl⟩
abbrev main_call0_call5_v8 : Ref sig .tc := ⟨.hbm, 532, rfl⟩
abbrev main_call0_call5_c_1 : Ref sig .tc := ⟨.hbm, 533, rfl⟩
abbrev main_call0_call5_v9 : Ref sig .tc := ⟨.hbm, 534, rfl⟩
abbrev main_call0_call5_v10 : Ref sig .tc := ⟨.hbm, 535, rfl⟩
abbrev main_call0_call5_v11 : Ref sig .tc := ⟨.hbm, 536, rfl⟩
abbrev main_call0_call5_v12 : Ref sig .tc := ⟨.hbm, 537, rfl⟩
abbrev main_call0_call5_v13 : Ref sig .tc := ⟨.hbm, 538, rfl⟩
abbrev main_call0_call5_c_2 : Ref sig .tc := ⟨.hbm, 539, rfl⟩
abbrev main_call0_call5_v14 : Ref sig .tc := ⟨.hbm, 540, rfl⟩
abbrev main_call0_call5_v15 : Ref sig .tc := ⟨.hbm, 541, rfl⟩
abbrev main_call0_call5_c_3 : Ref sig .tc := ⟨.hbm, 542, rfl⟩
abbrev main_call0_call5_v16 : Ref sig .tc := ⟨.hbm, 543, rfl⟩
abbrev main_call0_call5_v17 : Ref sig .tc := ⟨.hbm, 544, rfl⟩
abbrev main_call0_call5_v18 : Ref sig .tc := ⟨.hbm, 545, rfl⟩
abbrev main_call0_call5_v19 : Ref sig .tc := ⟨.hbm, 546, rfl⟩
abbrev main_call0_call5_v20 : Ref sig .tc := ⟨.hbm, 547, rfl⟩
abbrev main_call0_call5_c_4 : Ref sig .tc := ⟨.hbm, 548, rfl⟩
abbrev main_call0_call5_v21 : Ref sig .tc := ⟨.hbm, 549, rfl⟩
abbrev main_call0_call5_v22 : Ref sig .tc := ⟨.hbm, 550, rfl⟩
abbrev main_call0_call5_c_5 : Ref sig .tc := ⟨.hbm, 551, rfl⟩
abbrev main_call0_call5_v23 : Ref sig .tc := ⟨.hbm, 552, rfl⟩
abbrev main_call0_call5_v24 : Ref sig .tc := ⟨.hbm, 553, rfl⟩
abbrev main_call0_call5_v25 : Ref sig .tc := ⟨.hbm, 554, rfl⟩
abbrev main_call0_call5_v26 : Ref sig .tc := ⟨.hbm, 555, rfl⟩
abbrev main_call0_call5_v27 : Ref sig .tc := ⟨.hbm, 556, rfl⟩
abbrev main_call0_call5_c_6 : Ref sig .tc := ⟨.hbm, 557, rfl⟩
abbrev main_call0_call5_v28 : Ref sig .tc := ⟨.hbm, 558, rfl⟩
abbrev main_call0_call5_v29 : Ref sig .tc := ⟨.hbm, 559, rfl⟩
abbrev main_call0_call5_c_7 : Ref sig .tc := ⟨.hbm, 560, rfl⟩
abbrev main_call0_call5_v30 : Ref sig .tc := ⟨.hbm, 561, rfl⟩
abbrev main_call0_call5_v31 : Ref sig .tc := ⟨.hbm, 562, rfl⟩
abbrev main_call0_call5_v32 : Ref sig .tc := ⟨.hbm, 563, rfl⟩
abbrev main_call0_call5_v33 : Ref sig .tc := ⟨.hbm, 564, rfl⟩
abbrev main_call0_call5_v34 : Ref sig .tc := ⟨.hbm, 565, rfl⟩
abbrev main_call0_call5_v35 : Ref sig .tc := ⟨.hbm, 566, rfl⟩
abbrev main_call0_call5_v36 : Ref sig .tc := ⟨.hbm, 567, rfl⟩
abbrev main_call0_call5_v37 : Ref sig .tc := ⟨.hbm, 568, rfl⟩
abbrev main_call0_call5_c_8 : Ref sig .tc := ⟨.hbm, 569, rfl⟩
abbrev main_call0_call5_v38 : Ref sig .tc := ⟨.hbm, 570, rfl⟩
abbrev main_call0_call5_v39 : Ref sig .tc := ⟨.hbm, 571, rfl⟩
abbrev main_call0_call5_v40 : Ref sig .tc := ⟨.hbm, 572, rfl⟩
abbrev main_call0_call5_c_9 : Ref sig .tc := ⟨.hbm, 573, rfl⟩
abbrev main_call0_call5_v41 : Ref sig .tc := ⟨.hbm, 574, rfl⟩
abbrev main_call0_call5_v42 : Ref sig .tc := ⟨.hbm, 575, rfl⟩
abbrev main_call0_call5_c_10 : Ref sig .tc := ⟨.hbm, 576, rfl⟩
abbrev main_call0_call5_v43 : Ref sig .tc := ⟨.hbm, 577, rfl⟩
abbrev main_call0_call5_v44 : Ref sig .tc := ⟨.hbm, 578, rfl⟩
abbrev main_call0_call5_v45 : Ref sig .tc := ⟨.hbm, 579, rfl⟩
abbrev main_call0_call5_v46 : Ref sig .tc := ⟨.hbm, 580, rfl⟩
abbrev main_call0_call5_v47 : Ref sig .tc := ⟨.hbm, 581, rfl⟩
abbrev main_call0_call5_c_11 : Ref sig .tc := ⟨.hbm, 582, rfl⟩
abbrev main_call0_call5_v48 : Ref sig .tc := ⟨.hbm, 583, rfl⟩
abbrev main_call0_call5_v49 : Ref sig .tc := ⟨.hbm, 584, rfl⟩
abbrev main_call0_call5_c_12 : Ref sig .tc := ⟨.hbm, 585, rfl⟩
abbrev main_call0_call5_v50 : Ref sig .tc := ⟨.hbm, 586, rfl⟩
abbrev main_call0_call5_v51 : Ref sig .tc := ⟨.hbm, 587, rfl⟩
abbrev main_call0_call5_v52 : Ref sig .tc := ⟨.hbm, 588, rfl⟩
abbrev main_call0_call5_v53 : Ref sig .tc := ⟨.hbm, 589, rfl⟩
abbrev main_call0_call5_v54 : Ref sig .tc := ⟨.hbm, 590, rfl⟩
abbrev main_call0_call5_c_13 : Ref sig .tc := ⟨.hbm, 591, rfl⟩
abbrev main_call0_call5_v55 : Ref sig .tc := ⟨.hbm, 592, rfl⟩
abbrev main_call0_call5_v56 : Ref sig .tc := ⟨.hbm, 593, rfl⟩
abbrev main_call0_call5_c_14 : Ref sig .tc := ⟨.hbm, 594, rfl⟩
abbrev main_call0_call5_v57 : Ref sig .tc := ⟨.hbm, 595, rfl⟩
abbrev main_call0_call5_v58 : Ref sig .tc := ⟨.hbm, 596, rfl⟩
abbrev main_call0_call5_v59 : Ref sig .tc := ⟨.hbm, 597, rfl⟩
abbrev main_call0_call5_v60 : Ref sig .tc := ⟨.hbm, 598, rfl⟩
abbrev main_call0_call5_v61 : Ref sig .tc := ⟨.hbm, 599, rfl⟩
abbrev main_call0_call5_c_15 : Ref sig .tc := ⟨.hbm, 600, rfl⟩
abbrev main_call0_call5_v62 : Ref sig .tc := ⟨.hbm, 601, rfl⟩
abbrev main_call0_call5_v63 : Ref sig .tc := ⟨.hbm, 602, rfl⟩
abbrev main_call0_call5_c_16 : Ref sig .tc := ⟨.hbm, 603, rfl⟩
abbrev main_call0_call5_v64 : Ref sig .tc := ⟨.hbm, 604, rfl⟩
abbrev main_call0_call5_v65 : Ref sig .tc := ⟨.hbm, 605, rfl⟩
abbrev main_call0_call5_v66 : Ref sig .tc := ⟨.hbm, 606, rfl⟩
abbrev main_call0_call5_v67 : Ref sig .tc := ⟨.hbm, 607, rfl⟩
abbrev main_call0_call5_v68 : Ref sig .tc := ⟨.hbm, 608, rfl⟩
abbrev main_call0_call5_v69 : Ref sig .tc := ⟨.hbm, 609, rfl⟩
abbrev main_call0_call5_v70 : Ref sig .tc := ⟨.hbm, 610, rfl⟩
abbrev main_call0_call5_v71 : Ref sig .tc := ⟨.hbm, 611, rfl⟩
abbrev main_call0_call5_c_17 : Ref sig .tc := ⟨.hbm, 612, rfl⟩
abbrev main_call0_call5_v72 : Ref sig .tc := ⟨.hbm, 613, rfl⟩
abbrev main_call0_call5_v73 : Ref sig .tc := ⟨.hbm, 614, rfl⟩
abbrev main_call0_call5_v74 : Ref sig .tc := ⟨.hbm, 615, rfl⟩
abbrev main_call0_call5_c_18 : Ref sig .tc := ⟨.hbm, 616, rfl⟩
abbrev main_call0_call5_v75 : Ref sig .tc := ⟨.hbm, 617, rfl⟩
abbrev main_call0_call5_v76 : Ref sig .tc := ⟨.hbm, 618, rfl⟩
abbrev main_call0_call5_c_19 : Ref sig .tc := ⟨.hbm, 619, rfl⟩
abbrev main_call0_call5_v77 : Ref sig .tc := ⟨.hbm, 620, rfl⟩
abbrev main_call0_call5_v78 : Ref sig .tc := ⟨.hbm, 621, rfl⟩
abbrev main_call0_call5_v79 : Ref sig .tc := ⟨.hbm, 622, rfl⟩
abbrev main_call0_call5_v80 : Ref sig .tc := ⟨.hbm, 623, rfl⟩
abbrev main_call0_call5_v81 : Ref sig .tc := ⟨.hbm, 624, rfl⟩
abbrev main_call0_call5_c_20 : Ref sig .tc := ⟨.hbm, 625, rfl⟩
abbrev main_call0_call5_v82 : Ref sig .tc := ⟨.hbm, 626, rfl⟩
abbrev main_call0_call5_v83 : Ref sig .tc := ⟨.hbm, 627, rfl⟩
abbrev main_call0_call5_c_21 : Ref sig .tc := ⟨.hbm, 628, rfl⟩
abbrev main_call0_call5_v84 : Ref sig .tc := ⟨.hbm, 629, rfl⟩
abbrev main_call0_call5_v85 : Ref sig .tc := ⟨.hbm, 630, rfl⟩
abbrev main_call0_call5_v86 : Ref sig .tc := ⟨.hbm, 631, rfl⟩
abbrev main_call0_call5_v87 : Ref sig .tc := ⟨.hbm, 632, rfl⟩
abbrev main_call0_call5_v88 : Ref sig .tc := ⟨.hbm, 633, rfl⟩
abbrev main_call0_call5_c_22 : Ref sig .tc := ⟨.hbm, 634, rfl⟩
abbrev main_call0_call5_v89 : Ref sig .tc := ⟨.hbm, 635, rfl⟩
abbrev main_call0_call5_v90 : Ref sig .tc := ⟨.hbm, 636, rfl⟩
abbrev main_call0_call5_c_23 : Ref sig .tc := ⟨.hbm, 637, rfl⟩
abbrev main_call0_call5_v91 : Ref sig .tc := ⟨.hbm, 638, rfl⟩
abbrev main_call0_call5_v92 : Ref sig .tc := ⟨.hbm, 639, rfl⟩
abbrev main_call0_call5_v93 : Ref sig .tc := ⟨.hbm, 640, rfl⟩
abbrev main_call0_call5_v94 : Ref sig .tc := ⟨.hbm, 641, rfl⟩
abbrev main_call0_call5_v95 : Ref sig .tc := ⟨.hbm, 642, rfl⟩
abbrev main_call0_call5_c_24 : Ref sig .tc := ⟨.hbm, 643, rfl⟩
abbrev main_call0_call5_v96 : Ref sig .tc := ⟨.hbm, 644, rfl⟩
abbrev main_call0_call5_v97 : Ref sig .tc := ⟨.hbm, 645, rfl⟩
abbrev main_call0_call5_c_25 : Ref sig .tc := ⟨.hbm, 646, rfl⟩
abbrev main_call0_call5_v98 : Ref sig .tc := ⟨.hbm, 647, rfl⟩
abbrev main_call0_call5_v99 : Ref sig .tc := ⟨.hbm, 648, rfl⟩
abbrev main_call0_call5_v100 : Ref sig .tc := ⟨.hbm, 649, rfl⟩
abbrev main_call0_call5_v101 : Ref sig .tc := ⟨.hbm, 650, rfl⟩
abbrev main_call0_call5_v102 : Ref sig .tc := ⟨.hbm, 651, rfl⟩
abbrev main_call0_call5_v103 : Ref sig .tc := ⟨.hbm, 652, rfl⟩
abbrev main_call0_call5_v104 : Ref sig .tc := ⟨.hbm, 653, rfl⟩
abbrev main_call0_call5_v105 : Ref sig .tc := ⟨.hbm, 654, rfl⟩
abbrev main_call0_call5_c_26 : Ref sig .tc := ⟨.hbm, 655, rfl⟩
abbrev main_call0_call5_v106 : Ref sig .tc := ⟨.hbm, 656, rfl⟩
abbrev main_call0_call5_v107 : Ref sig .tc := ⟨.hbm, 657, rfl⟩
abbrev main_call0_call5_v108 : Ref sig .tc := ⟨.hbm, 658, rfl⟩
abbrev main_call0_call5_c_27 : Ref sig .tc := ⟨.hbm, 659, rfl⟩
abbrev main_call0_call5_v109 : Ref sig .tc := ⟨.hbm, 660, rfl⟩
abbrev main_call0_call5_v110 : Ref sig .tc := ⟨.hbm, 661, rfl⟩
abbrev main_call0_call5_c_28 : Ref sig .tc := ⟨.hbm, 662, rfl⟩
abbrev main_call0_call5_v111 : Ref sig .tc := ⟨.hbm, 663, rfl⟩
abbrev main_call0_call5_v112 : Ref sig .tc := ⟨.hbm, 664, rfl⟩
abbrev main_call0_call5_v113 : Ref sig .tc := ⟨.hbm, 665, rfl⟩
abbrev main_call0_call5_v114 : Ref sig .tc := ⟨.hbm, 666, rfl⟩
abbrev main_call0_call5_v115 : Ref sig .tc := ⟨.hbm, 667, rfl⟩
abbrev main_call0_call5_c_29 : Ref sig .tc := ⟨.hbm, 668, rfl⟩
abbrev main_call0_call5_v116 : Ref sig .tc := ⟨.hbm, 669, rfl⟩
abbrev main_call0_call5_v117 : Ref sig .tc := ⟨.hbm, 670, rfl⟩
abbrev main_call0_call5_c_30 : Ref sig .tc := ⟨.hbm, 671, rfl⟩
abbrev main_call0_call5_v118 : Ref sig .tc := ⟨.hbm, 672, rfl⟩
abbrev main_call0_call5_v119 : Ref sig .tc := ⟨.hbm, 673, rfl⟩
abbrev main_call0_call5_v120 : Ref sig .tc := ⟨.hbm, 674, rfl⟩
abbrev main_call0_call5_v121 : Ref sig .tc := ⟨.hbm, 675, rfl⟩
abbrev main_call0_call5_v122 : Ref sig .tc := ⟨.hbm, 676, rfl⟩
abbrev main_call0_call5_c_31 : Ref sig .tc := ⟨.hbm, 677, rfl⟩
abbrev main_call0_call5_v123 : Ref sig .tc := ⟨.hbm, 678, rfl⟩
abbrev main_call0_call5_v124 : Ref sig .tc := ⟨.hbm, 679, rfl⟩
abbrev main_call0_call5_c_32 : Ref sig .tc := ⟨.hbm, 680, rfl⟩
abbrev main_call0_call5_v125 : Ref sig .tc := ⟨.hbm, 681, rfl⟩
abbrev main_call0_call5_v126 : Ref sig .tc := ⟨.hbm, 682, rfl⟩
abbrev main_call0_call5_v127 : Ref sig .tc := ⟨.hbm, 683, rfl⟩
abbrev main_call0_call5_v128 : Ref sig .tc := ⟨.hbm, 684, rfl⟩
abbrev main_call0_call5_v129 : Ref sig .tc := ⟨.hbm, 685, rfl⟩
abbrev main_call0_call5_c_33 : Ref sig .tc := ⟨.hbm, 686, rfl⟩
abbrev main_call0_call5_v130 : Ref sig .tc := ⟨.hbm, 687, rfl⟩
abbrev main_call0_call5_v131 : Ref sig .tc := ⟨.hbm, 688, rfl⟩
abbrev main_call0_call5_c_34 : Ref sig .tc := ⟨.hbm, 689, rfl⟩
abbrev main_call0_call5_v132 : Ref sig .tc := ⟨.hbm, 690, rfl⟩
abbrev main_call0_call5_v133 : Ref sig .tc := ⟨.hbm, 691, rfl⟩
abbrev main_call0_call5_v134 : Ref sig .tc := ⟨.hbm, 692, rfl⟩
abbrev main_call0_call5_v135 : Ref sig .tc := ⟨.hbm, 693, rfl⟩
abbrev main_call0_call5_v136 : Ref sig .tc := ⟨.hbm, 694, rfl⟩
abbrev main_call0_call5_v137 : Ref sig .tc := ⟨.hbm, 695, rfl⟩
abbrev main_call0_call5_v138 : Ref sig .tc := ⟨.hbm, 696, rfl⟩
abbrev main_call0_call5_v139 : Ref sig .tc := ⟨.hbm, 697, rfl⟩
abbrev main_call0_call5_c_35 : Ref sig .tc := ⟨.hbm, 698, rfl⟩
abbrev main_call0_call5_v140 : Ref sig .tc := ⟨.hbm, 699, rfl⟩
abbrev main_call0_call5_v141 : Ref sig .tc := ⟨.hbm, 700, rfl⟩
abbrev main_call0_call5_v142 : Ref sig .tc := ⟨.hbm, 701, rfl⟩
abbrev main_call0_call5_c_36 : Ref sig .tc := ⟨.hbm, 702, rfl⟩
abbrev main_call0_call5_v143 : Ref sig .tc := ⟨.hbm, 703, rfl⟩
abbrev main_call0_call5_v144 : Ref sig .tc := ⟨.hbm, 704, rfl⟩
abbrev main_call0_call5_c_37 : Ref sig .tc := ⟨.hbm, 705, rfl⟩
abbrev main_call0_call5_v145 : Ref sig .tc := ⟨.hbm, 706, rfl⟩
abbrev main_call0_call5_v146 : Ref sig .tc := ⟨.hbm, 707, rfl⟩
abbrev main_call0_call5_v147 : Ref sig .tc := ⟨.hbm, 708, rfl⟩
abbrev main_call0_call5_v148 : Ref sig .tc := ⟨.hbm, 709, rfl⟩
abbrev main_call0_call5_v149 : Ref sig .tc := ⟨.hbm, 710, rfl⟩
abbrev main_call0_call5_c_38 : Ref sig .tc := ⟨.hbm, 711, rfl⟩
abbrev main_call0_call5_v150 : Ref sig .tc := ⟨.hbm, 712, rfl⟩
abbrev main_call0_call5_v151 : Ref sig .tc := ⟨.hbm, 713, rfl⟩
abbrev main_call0_call5_c_39 : Ref sig .tc := ⟨.hbm, 714, rfl⟩
abbrev main_call0_call5_v152 : Ref sig .tc := ⟨.hbm, 715, rfl⟩
abbrev main_call0_call5_v153 : Ref sig .tc := ⟨.hbm, 716, rfl⟩
abbrev main_call0_call5_v154 : Ref sig .tc := ⟨.hbm, 717, rfl⟩
abbrev main_call0_call5_v155 : Ref sig .tc := ⟨.hbm, 718, rfl⟩
abbrev main_call0_call5_v156 : Ref sig .tc := ⟨.hbm, 719, rfl⟩
abbrev main_call0_call5_c_40 : Ref sig .tc := ⟨.hbm, 720, rfl⟩
abbrev main_call0_call5_v157 : Ref sig .tc := ⟨.hbm, 721, rfl⟩
abbrev main_call0_call5_v158 : Ref sig .tc := ⟨.hbm, 722, rfl⟩
abbrev main_call0_call5_c_41 : Ref sig .tc := ⟨.hbm, 723, rfl⟩
abbrev main_call0_call5_v159 : Ref sig .tc := ⟨.hbm, 724, rfl⟩
abbrev main_call0_call5_v160 : Ref sig .tc := ⟨.hbm, 725, rfl⟩
abbrev main_call0_call5_v161 : Ref sig .tc := ⟨.hbm, 726, rfl⟩
abbrev main_call0_call5_v162 : Ref sig .tc := ⟨.hbm, 727, rfl⟩
abbrev main_call0_call5_v163 : Ref sig .tc := ⟨.hbm, 728, rfl⟩
abbrev main_call0_call5_c_42 : Ref sig .tc := ⟨.hbm, 729, rfl⟩
abbrev main_call0_call5_v164 : Ref sig .tc := ⟨.hbm, 730, rfl⟩
abbrev main_call0_call5_v165 : Ref sig .tc := ⟨.hbm, 731, rfl⟩
abbrev main_call0_call5_c_43 : Ref sig .tc := ⟨.hbm, 732, rfl⟩
abbrev main_call0_call5_v166 : Ref sig .tc := ⟨.hbm, 733, rfl⟩
abbrev main_call0_call5_v167 : Ref sig .tc := ⟨.hbm, 734, rfl⟩
abbrev main_call0_call5_v168 : Ref sig .tc := ⟨.hbm, 735, rfl⟩
abbrev main_call0_call5_v169 : Ref sig .tc := ⟨.hbm, 736, rfl⟩
abbrev main_call0_call5_v170 : Ref sig .tc := ⟨.hbm, 737, rfl⟩
abbrev main_call0_v37_0 : Ref sig .tc := ⟨.hbm, 738, rfl⟩
abbrev main_call0_call5_v172 : Ref sig .tc := ⟨.hbm, 739, rfl⟩
abbrev main_call0_call5_v173 : Ref sig .tc := ⟨.hbm, 740, rfl⟩
abbrev main_call0_call5_c_44 : Ref sig .tc := ⟨.hbm, 741, rfl⟩
abbrev main_call0_call5_v174 : Ref sig .tc := ⟨.hbm, 742, rfl⟩
abbrev main_call0_v37_1 : Ref sig .tc := ⟨.hbm, 743, rfl⟩
abbrev main_call0_v38 : Ref sig .tc := ⟨.hbm, 744, rfl⟩
abbrev main_call0_v39 : Ref sig .tc := ⟨.hbm, 745, rfl⟩
abbrev main_call0_v40 : Ref sig .tc := ⟨.hbm, 746, rfl⟩
abbrev main_call0_v41 : Ref sig .tc := ⟨.hbm, 747, rfl⟩
abbrev main_call0_c_10 : Ref sig .tc := ⟨.hbm, 748, rfl⟩
abbrev main_call0_v42 : Ref sig .tc := ⟨.hbm, 749, rfl⟩
abbrev main_call0_v43 : Ref sig .tc := ⟨.hbm, 750, rfl⟩
abbrev main_call0_v44 : Ref sig .tc := ⟨.hbm, 751, rfl⟩
abbrev main_call0_v45 : Ref sig .tc := ⟨.hbm, 752, rfl⟩
abbrev main_call0_v46 : Ref sig .tc := ⟨.hbm, 753, rfl⟩
abbrev main_call0_c_11 : Ref sig .tc := ⟨.hbm, 754, rfl⟩
abbrev main_call0_v47 : Ref sig .tc := ⟨.hbm, 755, rfl⟩
abbrev main_call0_v48 : Ref sig .tc := ⟨.hbm, 756, rfl⟩
abbrev main_call0_v49 : Ref sig .tc := ⟨.hbm, 757, rfl⟩
abbrev main_call0_c_12 : Ref sig .tc := ⟨.hbm, 758, rfl⟩
abbrev main_call0_v50 : Ref sig .tc := ⟨.hbm, 759, rfl⟩
abbrev main_call0_v51 : Ref sig .tc := ⟨.hbm, 760, rfl⟩
abbrev main_call0_v52 : Ref sig .tc := ⟨.hbm, 761, rfl⟩
abbrev main_call0_v53 : Ref sig .tc := ⟨.hbm, 762, rfl⟩
abbrev main_call0_v54 : Ref sig .tc := ⟨.hbm, 763, rfl⟩
abbrev main_call0_v55 : Ref sig .tc := ⟨.hbm, 764, rfl⟩
abbrev main_call0_v56 : Ref sig .tc := ⟨.hbm, 765, rfl⟩
abbrev main_call0_v57 : Ref sig .tc := ⟨.hbm, 766, rfl⟩
abbrev main_call0_v58 : Ref sig .tc := ⟨.hbm, 767, rfl⟩
abbrev main_call0_v59 : Ref sig .tc := ⟨.hbm, 768, rfl⟩
abbrev main_call0_v60 : Ref sig .tc := ⟨.hbm, 769, rfl⟩
abbrev main_call0_v61 : Ref sig .tc := ⟨.hbm, 770, rfl⟩
abbrev main_call0_v62 : Ref sig .tc := ⟨.hbm, 771, rfl⟩
abbrev main_call0_v63 : Ref sig .tc := ⟨.hbm, 772, rfl⟩
abbrev main_call0_v64 : Ref sig .tc := ⟨.hbm, 773, rfl⟩
abbrev main_v7 : Ref sig .tc := ⟨.hbm, 774, rfl⟩
abbrev main_v8 : Ref sig .tc := ⟨.hbm, 775, rfl⟩
abbrev main_c_4 : Ref sig .tc := ⟨.hbm, 776, rfl⟩
abbrev main_v9 : Ref sig .tc := ⟨.hbm, 777, rfl⟩
abbrev main_v10 : Ref sig .tc := ⟨.hbm, 778, rfl⟩
abbrev main_c_5 : Ref sig .tc := ⟨.hbm, 779, rfl⟩
abbrev main_v11 : Ref sig .tc := ⟨.hbm, 780, rfl⟩
abbrev main_v12 : Ref sig .tc := ⟨.hbm, 781, rfl⟩
abbrev main_v13 : Ref sig .tc := ⟨.hbm, 782, rfl⟩
abbrev main_c_6 : Ref sig .tc := ⟨.hbm, 783, rfl⟩
abbrev main_v14 : Ref sig .tc := ⟨.hbm, 784, rfl⟩
abbrev main_v15 : Ref sig .tc := ⟨.hbm, 785, rfl⟩
abbrev main_c_7 : Ref sig .tc := ⟨.hbm, 786, rfl⟩
abbrev main_v16 : Ref sig .tc := ⟨.hbm, 787, rfl⟩
abbrev main_v17 : Ref sig .tc := ⟨.hbm, 788, rfl⟩
abbrev main_v18 : Ref sig .tc := ⟨.hbm, 789, rfl⟩
abbrev main_v19 : Ref sig .tc := ⟨.hbm, 790, rfl⟩
abbrev main_v20 : Ref sig .tc := ⟨.hbm, 791, rfl⟩
abbrev main_v21 : Ref sig .tc := ⟨.hbm, 792, rfl⟩
abbrev main_v22 : Ref sig .tc := ⟨.hbm, 793, rfl⟩

abbrev nD : Nat := 1
abbrev τ : Topo := Topo.v7x

variable {F : FTy → Type} [FloatOps F]
-- ==== Proof.Equations.lean ====
/-
  A host program as a system of equations.

  A line of StableHLO operations that writes every buffer at most once, each operation reading only buffers written before it,
  leaves a valuation in which EVERY operation's equation `y = f x₁ … xₙ` holds at once. So a function's body can be read as the
  conjunction of its equations, over whatever buffers its record names: no buffer has to be told from another while a value is
  computed, and a function called from several places is read once.
-/
module

public import Idealize.ShloMosaic.Lib.StableHlo.Run

@[expose] public section

noncomputable section

namespace Cert.Proof.Equations

open Idealize.ShloMosaic
open Idealize.SL.Sem
open Idealize.ShloMosaic.StableHlo

variable {nD : Nat} {τ : Topo} {sig : RefSig} {Val : EltTy → Type} {Λ : Labels}

/-- A typed reference's contents in a valuation, at the value's type. -/
def rd {T : BufTy} (V : Valuation τ sig Val) (x : TRef sig T) : T.Contents Val := x.ofBuf (V (Proc.devRef .tc x.ref))

/-- One operation of a line: the one buffer it writes, those it reads, that its result there depends on nothing else, and
    the equation it makes true. -/
structure Step (τ : Topo) (sig : RefSig) (Val : EltTy → Type) where
  op : HloOp τ sig Val
  out : Ref sig .tc
  ins : List (Ref sig .tc)
  writes : op.writes = {Proc.devRef .tc out}
  bufs : op.bufs ⊆ tcRefs τ sig
  fresh : op.fresh = ∅
  dep : ∀ V V' : Valuation τ sig Val, (∀ r ∈ ins, V (Proc.devRef .tc r) = V' (Proc.devRef .tc r)) →
    op.result V (Proc.devRef .tc out) = op.result V' (Proc.devRef .tc out)
  holds : Valuation τ sig Val → Prop
  holds_of : ∀ V, op.result V (Proc.devRef .tc out) = V (Proc.devRef .tc out) → holds V

/-- All the equations of a line, as one conjunction. -/
def Hold (V : Valuation τ sig Val) : List (Step τ sig Val) → Prop
  | [] => True
  | s :: l => s.holds V ∧ Hold V l

theorem hold_append (V : Valuation τ sig Val) : ∀ l l' : List (Step τ sig Val), Hold V (l ++ l') → Hold V l ∧ Hold V l'
  | [], _, h => ⟨trivial, h⟩
  | _ :: l, l', h => ⟨⟨h.1, (hold_append V l l' h.2).1⟩, (hold_append V l l' h.2).2⟩

theorem hold_of_forall (V : Valuation τ sig Val) : ∀ l : List (Step τ sig Val), (∀ s ∈ l, s.holds V) → Hold V l
  | [], _ => trivial
  | _ :: l, h => ⟨h _ List.mem_cons_self, hold_of_forall V l fun s hs => h s (List.mem_cons_of_mem _ hs)⟩

/-- A program that is a line of such operations, with the line. -/
structure Line (p : Prog (TpuEff nD τ sig Val Λ .tc) PUnit) where
  steps : List (Step τ sig Val)
  eq : p = seq (steps.map Step.op)

/-- The empty line. -/
def Line.ret : Line (nD := nD) (τ := τ) (sig := sig) (Val := Val) (Λ := Λ) (pure ⟨⟩) := ⟨[], rfl⟩
/-- One operation. -/
def Line.one (s : Step τ sig Val) : Line (nD := nD) (Λ := Λ) (hlo rfl s.op fun _ => .ret ⟨⟩) := ⟨[s], rfl⟩
/-- Two lines one after the other. -/
def Line.bind {p : Prog (TpuEff nD τ sig Val Λ .tc) PUnit} {q : PUnit → Prog (TpuEff nD τ sig Val Λ .tc) PUnit}
    (hp : Line p) (hq : Line (q ⟨⟩)) : Line (p >>= q) :=
  ⟨hp.steps ++ hq.steps, by
    rw [List.map_append, seq_append, ← hp.eq]
    exact congrArg (p >>= ·) (funext fun _ => hq.eq)⟩

/-! ## Single assignment -/

/-- In the order of `key`: every operation writes a buffer of a larger key than all before it, and reads only smaller ones. -/
def increasing (key : Ref sig .tc → Nat) : Nat → List (Step τ sig Val) → Bool
  | _, [] => true
  | n, s :: l => Nat.ble n (key s.out) && (s.ins.all fun r => Nat.blt (key r) (key s.out)) && increasing key (key s.out + 1) l

theorem result_ne (s : Step τ sig Val) (V : Valuation τ sig Val) {r : Ref sig .tc} (h : r ≠ s.out) :
    s.op.result V (Proc.devRef .tc r) = V (Proc.devRef .tc r) :=
  s.op.result_of_not_mem V (by rw [s.writes, Finset.mem_singleton]; exact devRef_ne_of_ne h)

/-- A buffer of a key below every key written keeps its contents. -/
theorem after_low (key : Ref sig .tc → Nat) (r : Ref sig .tc) :
    ∀ (l : List (Step τ sig Val)) (n : Nat) (V : Valuation τ sig Val), increasing key n l = true → key r < n →
      after (l.map Step.op) V (Proc.devRef .tc r) = V (Proc.devRef .tc r)
  | [], _, _, _, _ => rfl
  | s :: l, n, V, h, hr => by
    simp only [increasing, Bool.and_eq_true] at h
    have h1 : n ≤ key s.out := Nat.le_of_ble_eq_true h.1.1
    rw [List.map_cons, after_cons, after_low key r l _ _ h.2 (by omega), result_ne s V (fun e => by rw [e] at hr; omega)]

/-- After a line in single assignment, every operation's equation holds. -/
theorem after_hold (key : Ref sig .tc → Nat) :
    ∀ (l : List (Step τ sig Val)) (n : Nat) (V : Valuation τ sig Val), increasing key n l = true →
      ∀ s ∈ l, s.holds (after (l.map Step.op) V)
  | [], _, _, _, _, hs => nomatch hs
  | t :: l, n, V, h, s, hs => by
    simp only [increasing, Bool.and_eq_true, List.all_eq_true] at h
    rcases List.mem_cons.mp hs with rfl | hs
    · refine s.holds_of _ ?_
      rw [List.map_cons, after_cons, after_low key s.out l _ _ h.2 (Nat.lt_succ_self _)]
      refine s.dep _ _ fun r hr => ?_
      have hlt : key r < key s.out := Nat.le_of_ble_eq_true (h.1.2 r hr)
      rw [after_low key r l _ _ h.2 (by omega), result_ne s V (fun e => by rw [e] at hlt; omega)]
    · exact after_hold key l _ _ h.2 s hs

/-! ## The builders -/

section Builders

variable {T Ta Tb Tc Ty : BufTy}

/-- `y = v`. -/
def nullary (y : TRef sig Ty) (v : Ty.Contents Val) : Step τ sig Val where
  op := TRef.nullary y v
  out := y.ref
  ins := []
  writes := rfl
  bufs := by intro b hb; cases Finset.mem_singleton.mp hb; exact devRef_mem_tcRefs _
  fresh := rfl
  dep V V' _ := by rw [nullary_result, nullary_result]
  holds V := rd V y = v
  holds_of V h := by rw [rd, ← h, nullary_result, TRef.ofBuf_toBuf]

/-- `y = f a`. -/
def unary (a : TRef sig Ta) (y : TRef sig Ty) (f : Ta.Contents Val → Ty.Contents Val) : Step τ sig Val where
  op := TRef.unary a y f
  out := y.ref
  ins := [a.ref]
  writes := rfl
  bufs := by
    intro b hb
    simp only [TRef.unary, unary_bufs, Finset.mem_insert, Finset.mem_singleton] at hb
    rcases hb with rfl|rfl <;> exact devRef_mem_tcRefs _
  fresh := rfl
  dep V V' h := by rw [unary_result, unary_result, h a.ref (by simp)]
  holds V := rd V y = f (rd V a)
  holds_of V h := by rw [rd, ← h, unary_result, TRef.ofBuf_toBuf, rd]

/-- `y = f a b`. -/
def binary (a : TRef sig Ta) (b : TRef sig Tb) (y : TRef sig Ty) (f : Ta.Contents Val → Tb.Contents Val → Ty.Contents Val) :
    Step τ sig Val where
  op := TRef.binary a b y f
  out := y.ref
  ins := [a.ref, b.ref]
  writes := rfl
  bufs := by
    intro b hb
    simp only [TRef.binary, binary_bufs, Finset.mem_insert, Finset.mem_singleton] at hb
    rcases hb with rfl|rfl|rfl <;> exact devRef_mem_tcRefs _
  fresh := rfl
  dep V V' h := by rw [binary_result, binary_result, h a.ref (by simp), h b.ref (by simp)]
  holds V := rd V y = f (rd V a) (rd V b)
  holds_of V h := by rw [rd, ← h, binary_result, TRef.ofBuf_toBuf, rd, rd]

/-- `y = f c a b`. -/
def ternary (c : TRef sig Tc) (a : TRef sig Ta) (b : TRef sig Tb) (y : TRef sig Ty)
    (f : Tc.Contents Val → Ta.Contents Val → Tb.Contents Val → Ty.Contents Val) : Step τ sig Val where
  op := TRef.ternary c a b y f
  out := y.ref
  ins := [c.ref, a.ref, b.ref]
  writes := rfl
  bufs := by
    intro b hb
    simp only [TRef.ternary, ternary_bufs, Finset.mem_insert, Finset.mem_singleton] at hb
    rcases hb with rfl|rfl|rfl|rfl <;> exact devRef_mem_tcRefs _
  fresh := rfl
  dep V V' h := by rw [ternary_result, ternary_result, h c.ref (by simp), h a.ref (by simp), h b.ref (by simp)]
  holds V := rd V y = f (rd V c) (rd V a) (rd V b)
  holds_of V h := by rw [rd, ← h, ternary_result, TRef.ofBuf_toBuf, rd, rd, rd]

/-- A reshape between types spelt two ways is the reshape at either spelling. -/
theorem shapeCast_cast {s t : Shape} {e : EltTy} {A Y : BufTy} (hA : A = ⟨s, e⟩) (hY : Y = ⟨t, e⟩) (he : A.elt = Y.elt)
    (hn' : A.shape.ShapeCasts Y.shape) (hn : s.ShapeCasts t) (u : A.Contents Val) :
    (cast (congrArg (fun U : BufTy => U.Contents Val) hY) (fun i => he ▸ shapeCast Y.shape u hn' i) : (⟨t, e⟩ : BufTy).Contents Val)
      = shapeCast t (cast (congrArg (fun U : BufTy => U.Contents Val) hA) u : (⟨s, e⟩ : BufTy).Contents Val) hn := by
  subst hA hY; rfl

/-- `y` is `a` in `y`'s shape, row-major. -/
def reshape {s t : Shape} {e : EltTy} (a : TRef sig ⟨s, e⟩) (y : TRef sig ⟨t, e⟩) (hn : s.ShapeCasts t) : Step τ sig Val where
  op := TRef.reshape a y rfl hn
  out := y.ref
  ins := [a.ref]
  writes := rfl
  bufs := by
    intro b hb
    simp only [TRef.reshape, reshape_bufs, Finset.mem_insert, Finset.mem_singleton] at hb
    rcases hb with rfl|rfl <;> exact devRef_mem_tcRefs _
  fresh := rfl
  dep V V' h := by rw [reshape_result, reshape_result, h a.ref (by simp)]
  holds V := rd V y = shapeCast t (rd V a) hn
  holds_of V h := by
    rw [rd, ← h, reshape_result]
    exact shapeCast_cast a.ty_eq y.ty_eq _ _ hn _

/-! One operation as the printed program spells it. -/

def Line.nullary (y : TRef sig Ty) (v : Ty.Contents Val) :
    Line (nD := nD) (τ := τ) (Λ := Λ) (hlo rfl (TRef.nullary y v) fun _ => .ret ⟨⟩) := .one (Equations.nullary y v)
def Line.unary (a : TRef sig Ta) (y : TRef sig Ty) (f : Ta.Contents Val → Ty.Contents Val) :
    Line (nD := nD) (τ := τ) (Λ := Λ) (hlo rfl (TRef.unary a y f) fun _ => .ret ⟨⟩) := .one (Equations.unary a y f)
def Line.binary (a : TRef sig Ta) (b : TRef sig Tb) (y : TRef sig Ty) (f : Ta.Contents Val → Tb.Contents Val → Ty.Contents Val) :
    Line (nD := nD) (τ := τ) (Λ := Λ) (hlo rfl (TRef.binary a b y f) fun _ => .ret ⟨⟩) := .one (Equations.binary a b y f)
def Line.ternary (c : TRef sig Tc) (a : TRef sig Ta) (b : TRef sig Tb) (y : TRef sig Ty)
    (f : Tc.Contents Val → Ta.Contents Val → Tb.Contents Val → Ty.Contents Val) :
    Line (nD := nD) (τ := τ) (Λ := Λ) (hlo rfl (TRef.ternary c a b y f) fun _ => .ret ⟨⟩) := .one (Equations.ternary c a b y f)
def Line.reshape {s t : Shape} {e : EltTy} (a : TRef sig ⟨s, e⟩) (y : TRef sig ⟨t, e⟩) (hn : s.ShapeCasts t) :
    Line (nD := nD) (τ := τ) (Val := Val) (Λ := Λ) (hlo rfl (TRef.reshape a y rfl hn) fun _ => .ret ⟨⟩) := .one (Equations.reshape a y hn)

/-! One operation over bare references, as the program's own body spells it: the same equation, each reference at its own type. -/

/-- A buffer on the device, not scoped. -/
abbrev OnDevice (τ : Topo) (x : Ref sig .tc) : Prop := x.space ≠ .host ∧ (Proc.devRef (τ := τ) .tc x).isScoped = false

/-- A bare reference as a typed one, at its own type. -/
abbrev bare (x : Ref sig .tc) (h : OnDevice τ x) : TRef sig x.ty := ⟨x, rfl, h.1, h.2⟩

def Line.nullaryR (y : Ref sig .tc) (v : y.ty.Contents Val) (hy : OnDevice τ y) :
    Line (nD := nD) (τ := τ) (Λ := Λ) (hlo rfl (StableHlo.nullary y v hy) fun _ => .ret ⟨⟩) := .one (Equations.nullary (bare y hy) v)
def Line.unaryR (a y : Ref sig .tc) (f : a.ty.Contents Val → y.ty.Contents Val)
    (ha : OnDevice τ a) (hy : OnDevice τ y) :
    Line (nD := nD) (τ := τ) (Λ := Λ) (hlo rfl (StableHlo.unary a y f ha hy) fun _ => .ret ⟨⟩) :=
  .one (Equations.unary (bare a ha) (bare y hy) f)
def Line.binaryR (a b y : Ref sig .tc) (f : a.ty.Contents Val → b.ty.Contents Val → y.ty.Contents Val)
    (ha : OnDevice τ a) (hb : OnDevice τ b)
    (hy : OnDevice τ y) :
    Line (nD := nD) (τ := τ) (Λ := Λ) (hlo rfl (StableHlo.binary a b y f ha hb hy) fun _ => .ret ⟨⟩) :=
  .one (Equations.binary (bare a ha) (bare b hb) (bare y hy) f)
def Line.ternaryR (c a b y : Ref sig .tc) (f : c.ty.Contents Val → a.ty.Contents Val → b.ty.Contents Val → y.ty.Contents Val)
    (hc : OnDevice τ c) (ha : OnDevice τ a)
    (hb : OnDevice τ b) (hy : OnDevice τ y) :
    Line (nD := nD) (τ := τ) (Λ := Λ) (hlo rfl (StableHlo.ternary c a b y f hc ha hb hy) fun _ => .ret ⟨⟩) :=
  .one (Equations.ternary (bare c hc) (bare a ha) (bare b hb) (bare y hy) f)

end Builders

end Cert.Proof.Equations

end
-- ==== Proof.Lines.lean ====
/-
  The reference's functions as lines of equations: each printed body, over whatever buffers its record names, and the program
  whole. A body is taken apart at its sequencing; every operation is one of the builders of Equations.lean.
-/
module

public import proofs.«01_k».proof.Defs
public import proofs.«01_k».proof.Proof.Equations
public import proofs.«01_k».proof.Proof.Gen.ReferenceIdeal

@[expose] public section

noncomputable section

namespace Cert.Proof.Ref

open Cert.ReferenceIdeal Cert.ReferenceIdeal.Gen
open Idealize.ShloMosaic
open Idealize.SL.Sem
open Cert.Proof.Equations

variable {F : FTy → Type} [FloatOps F]

local notation "TR" => StableHlo.TRef sig

set_option maxHeartbeats 4000000

def clip (a b c : TR ⟨S_, .i32⟩) (φ : fn_clip.Bufs) : Line (fn_clip.body (F := F) a b c φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def clip_0 (a b c : TR ⟨S_, .i32⟩) (φ : fn_clip_0.Bufs) : Line (fn_clip_0.body (F := F) a b c φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

/-! `threefry2x32`, in its printed parts. -/

def threefry2x32_part0 (a b : TR ⟨S_, .i32⟩) (x y : TR ⟨S2, .i32⟩) (φ : fn_threefry2x32.Bufs) : Line (fn_threefry2x32.body_part0 (F := F) a b x y φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def threefry2x32_part1 (a b : TR ⟨S_, .i32⟩) (x y : TR ⟨S2, .i32⟩) (φ : fn_threefry2x32.Bufs) : Line (fn_threefry2x32.body_part1 (F := F) a b x y φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def threefry2x32_part2 (a b : TR ⟨S_, .i32⟩) (x y : TR ⟨S2, .i32⟩) (φ : fn_threefry2x32.Bufs) : Line (fn_threefry2x32.body_part2 (F := F) a b x y φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def threefry2x32_part3 (a b : TR ⟨S_, .i32⟩) (x y : TR ⟨S2, .i32⟩) (φ : fn_threefry2x32.Bufs) : Line (fn_threefry2x32.body_part3 (F := F) a b x y φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def threefry2x32 (a b : TR ⟨S_, .i32⟩) (x y : TR ⟨S2, .i32⟩) (φ : fn_threefry2x32.Bufs) : Line (fn_threefry2x32.body (F := F) a b x y φ) :=
  .bind (threefry2x32_part0 a b x y φ) <| .bind (threefry2x32_part1 a b x y φ) <| .bind (threefry2x32_part2 a b x y φ) (threefry2x32_part3 a b x y φ)

/-! `threefry2x32_1`, in its printed parts. -/

def threefry2x32_1_part0 (a b : TR ⟨S_, .i32⟩) (x y : TR ⟨S4, .i32⟩) (φ : fn_threefry2x32_1.Bufs) : Line (fn_threefry2x32_1.body_part0 (F := F) a b x y φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def threefry2x32_1_part1 (a b : TR ⟨S_, .i32⟩) (x y : TR ⟨S4, .i32⟩) (φ : fn_threefry2x32_1.Bufs) : Line (fn_threefry2x32_1.body_part1 (F := F) a b x y φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def threefry2x32_1_part2 (a b : TR ⟨S_, .i32⟩) (x y : TR ⟨S4, .i32⟩) (φ : fn_threefry2x32_1.Bufs) : Line (fn_threefry2x32_1.body_part2 (F := F) a b x y φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def threefry2x32_1_part3 (a b : TR ⟨S_, .i32⟩) (x y : TR ⟨S4, .i32⟩) (φ : fn_threefry2x32_1.Bufs) : Line (fn_threefry2x32_1.body_part3 (F := F) a b x y φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def threefry2x32_1 (a b : TR ⟨S_, .i32⟩) (x y : TR ⟨S4, .i32⟩) (φ : fn_threefry2x32_1.Bufs) : Line (fn_threefry2x32_1.body (F := F) a b x y φ) :=
  .bind (threefry2x32_1_part0 a b x y φ) <| .bind (threefry2x32_1_part1 a b x y φ) <| .bind (threefry2x32_1_part2 a b x y φ) (threefry2x32_1_part3 a b x y φ)

def threefry_split (a : TR ⟨S2, .i32⟩) (φ : fn_threefry_split.Bufs) : Line (fn_threefry_split.body (F := F) a φ) := by
  repeat' first
    | exact .ret
    | with_reducible exact .nullary _ _
    | with_reducible exact .unary _ _ _
    | with_reducible exact .binary _ _ _ _
    | with_reducible exact .ternary _ _ _ _ _
    | with_reducible exact .reshape _ _ _
    | with_reducible exact threefry2x32 _ _ _ _ _
    | refine .bind ?_ ?_

def randint_part0 (a : TR ⟨S2, .i32⟩) (b c : TR ⟨S_, .i32⟩) (φ : fn_randint.Bufs) : Line (fn_randint.body_part0 (F := F) a b c φ) := by
  repeat' first
    | exact .ret
    | with_reducible exact .nullary _ _
    | with_reducible exact .unary _ _ _
    | with_reducible exact .binary _ _ _ _
    | with_reducible exact .ternary _ _ _ _ _
    | with_reducible exact .reshape _ _ _
    | with_reducible exact clip _ _ _ _
    | with_reducible exact clip_0 _ _ _ _
    | with_reducible exact threefry_split _ _
    | with_reducible exact threefry2x32_1 _ _ _ _ _
    | refine .bind ?_ ?_

def randint_part1 (a : TR ⟨S2, .i32⟩) (b c : TR ⟨S_, .i32⟩) (φ : fn_randint.Bufs) : Line (fn_randint.body_part1 (F := F) a b c φ) := by
  repeat' first
    | exact .ret
    | with_reducible exact .nullary _ _
    | with_reducible exact .unary _ _ _
    | with_reducible exact .binary _ _ _ _
    | with_reducible exact .ternary _ _ _ _ _
    | with_reducible exact .reshape _ _ _
    | refine .bind ?_ ?_

def randint (a : TR ⟨S2, .i32⟩) (b c : TR ⟨S_, .i32⟩) (φ : fn_randint.Bufs) : Line (fn_randint.body (F := F) a b c φ) :=
  .bind (randint_part0 a b c φ) (randint_part1 a b c φ)

/-- The whole program. -/
def whole (d : Dev nD) : Line (main (F := F) d) := by
  repeat' first
    | exact .ret
    | with_reducible exact .nullaryR _ _ _
    | with_reducible exact .unaryR _ _ _ _ _
    | with_reducible exact .binaryR _ _ _ _ _ _ _
    | with_reducible exact .ternaryR _ _ _ _ _ _ _ _ _
    | with_reducible exact randint _ _ _ _
    | refine .bind ?_ ?_

end Cert.Proof.Ref

end
-- ==== Proof.Threefry.lean ====
/-
  The counter cipher of the reference's random numbers: twenty rounds of add, rotate and xor on a pair of words, keyed at five
  places. First the cipher on words; then a round and a keying read off a tensor program's equations; then the two printed
  functions, at every element.
-/
module

public import proofs.«01_k».proof.Proof.Lines

@[expose] public section

noncomputable section

namespace Cert.Proof.Ref

open Cert.ReferenceIdeal Cert.ReferenceIdeal.Gen
open Idealize.ShloMosaic
open Idealize.ShloMosaic.StableHlo
open Cert.Proof.Equations

/-! ## On words -/

/-- A pair of words. -/
abbrev Pair := BitVec 32 × BitVec 32

/-- One round: add, and xor the sum into the other word rotated left by `l` (right by `r = 32 - l`). -/
def mix (l r : Nat) (p : Pair) : Pair := (p.1 + p.2, (p.1 + p.2) ^^^ (p.2 <<< l ||| p.2 >>> r))
/-- Keying: a word added to each half, and a count to the second. -/
def keyed (ka kb n : BitVec 32) (p : Pair) : Pair := (p.1 + ka, p.2 + kb + n)
/-- Four rounds of the first kind, -/
def fourA (p : Pair) : Pair := mix 6 26 (mix 26 6 (mix 15 17 (mix 13 19 p)))
/-- and of the second. -/
def fourB (p : Pair) : Pair := mix 24 8 (mix 16 16 (mix 29 3 (mix 17 15 p)))
/-- The third key word. -/
def third (a b : BitVec 32) : BitVec 32 := a ^^^ b ^^^ 466688986#32
/-- The cipher of a pair under a key `a, b`. -/
def cipher (a b : BitVec 32) (p : Pair) : Pair :=
  keyed (third a b) a 5 <| fourA <| keyed b (third a b) 4 <| fourB <| keyed a b 3 <| fourA <|
    keyed (third a b) a 2 <| fourB <| keyed b (third a b) 1 <| fourA (p.1 + a, p.2 + b)

/-! ## On tensors -/

/-- An integer tensor of shape `s`. -/
abbrev T32 (s : Shape) := s.Idx → BitVec 32

/-- A scalar's one index. -/
abbrev nil : S_.Idx := fun a => a.elim0

/-- Broadcasting a scalar. -/
theorem bcast_at {s : Shape} {α : Type} (hb : S_.BroadcastsInDim s ![]) (c : S_.Idx → α) (i : s.Idx) :
    broadcastInDim s ![] hb c i = c nil := congrArg c (funext fun a => a.elim0)

/-- One round's equations. -/
theorem mix_at {s : Shape} {hb : S_.BroadcastsInDim s ![]} {l r : Nat} {x y o b1 h1 b2 h2 q z : T32 s} {c1 c2 : T32 S_} {p : s.Idx → Pair}
    (hp : ∀ i, (x i, y i) = p i)
    (e0 : o = addi x y) (e1 : c1 = constantI S_ 32 (BitVec.ofNat 32 l)) (e2 : b1 = broadcastInDim s ![] hb c1) (e3 : h1 = Host.shli y b1)
    (e4 : c2 = constantI S_ 32 (BitVec.ofNat 32 r)) (e5 : b2 = broadcastInDim s ![] hb c2) (e6 : h2 = Host.shrui y b2)
    (e7 : q = ori h1 h2) (e8 : z = xori o q) (hl : l < 32) (hr : r < 32) : ∀ i, (o i, z i) = mix l r (p i) := by
  intro i
  have hl' : (BitVec.ofNat 32 l).toNat = l := by rw [BitVec.toNat_ofNat]; omega
  have hr' : (BitVec.ofNat 32 r).toNat = r := by rw [BitVec.toNat_ofNat]; omega
  have hs : h1 i = y i <<< l := by
    rw [e3, e2]
    show IntOp.shli .host (y i) (broadcastInDim s ![] hb c1 i) = _
    rw [bcast_at, e1]
    simp only [constantI, IntOp.shli, hl', hl, if_true, BitVec.shiftLeft_eq']
  have hs' : h2 i = y i >>> r := by
    rw [e6, e5]
    show IntOp.shrui .host (y i) (broadcastInDim s ![] hb c2 i) = _
    rw [bcast_at, e4]
    simp only [constantI, IntOp.shrui, hr', hr, if_true, BitVec.ushiftRight_eq']
  have ho : o i = x i + y i := by rw [e0]; rfl
  have hz : z i = (x i + y i) ^^^ (y i <<< l ||| y i >>> r) := by
    rw [← hs, ← hs', ← ho, e8, e7]; rfl
  rw [← hp i, ho, hz]
  rfl

/-- One keying's equations. -/
theorem keyed_at {s : Shape} {hb : S_.BroadcastsInDim s ![]} {n ka kb : BitVec 32} {x y ba o bb w bc z : T32 s} {ta tb c : T32 S_}
    {p : s.Idx → Pair} (hp : ∀ i, (x i, y i) = p i) (ha : ta nil = ka) (hb' : tb nil = kb)
    (e0 : ba = broadcastInDim s ![] hb ta) (e1 : o = addi x ba) (e2 : bb = broadcastInDim s ![] hb tb) (e3 : w = addi y bb)
    (e4 : c = constantI S_ 32 n) (e5 : bc = broadcastInDim s ![] hb c) (e6 : z = addi w bc) :
    ∀ i, (o i, z i) = keyed ka kb n (p i) := by
  intro i
  have ho : o i = x i + ka := by
    rw [e1, e0, ← ha]
    exact congrArg (x i + ·) (bcast_at hb ta i)
  have hz : z i = y i + kb + n := by
    rw [e6, e5, e3, e2, ← hb']
    show y i + broadcastInDim s ![] hb tb i + broadcastInDim s ![] hb c i = _
    rw [bcast_at, bcast_at, e4]
    rfl
  rw [← hp i, ho, hz]
  rfl

/-- The first keying, with no count. -/
theorem start_at {s : Shape} {hb : S_.BroadcastsInDim s ![]} {x y ba o bb w : T32 s} {ta tb : T32 S_}
    (e0 : ba = broadcastInDim s ![] hb ta) (e1 : o = addi x ba) (e2 : bb = broadcastInDim s ![] hb tb) (e3 : w = addi y bb) :
    ∀ i, (o i, w i) = (x i + ta nil, y i + tb nil) := by
  intro i
  rw [e1, e0, e3, e2]
  show (x i + broadcastInDim s ![] hb ta i, y i + broadcastInDim s ![] hb tb i) = _
  rw [bcast_at, bcast_at]

/-- Four rounds and a keying: their equations. -/
theorem group_at {s : Shape} {hb : S_.BroadcastsInDim s ![]} (l1 r1 l2 r2 l3 r3 l4 r4 : Nat)
    (hl : (l1 < 32 ∧ r1 < 32) ∧ (l2 < 32 ∧ r2 < 32) ∧ (l3 < 32 ∧ r3 < 32) ∧ l4 < 32 ∧ r4 < 32) {n ka kb : BitVec 32}
    {x y o1 b1 h1 d1 g1 q1 z1 o2 b2 h2 d2 g2 q2 z2 o3 b3 h3 d3 g3 q3 z3 o4 b4 h4 d4 g4 q4 z4 ba o bb w bc z : T32 s} {c1 t1 c2 t2 c3 t3 c4 t4 ta tb c : T32 S_}
    {p : s.Idx → Pair} (hp : ∀ i, (x i, y i) = p i) (ha : ta nil = ka) (hb' : tb nil = kb)
    (e0 : o1 = addi x y) (e1 : c1 = constantI S_ 32 (BitVec.ofNat 32 l1)) (e2 : b1 = broadcastInDim s ![] hb c1)
    (e3 : h1 = Host.shli y b1) (e4 : t1 = constantI S_ 32 (BitVec.ofNat 32 r1)) (e5 : d1 = broadcastInDim s ![] hb t1)
    (e6 : g1 = Host.shrui y d1) (e7 : q1 = ori h1 g1) (e8 : z1 = xori o1 q1)
    (e9 : o2 = addi o1 z1) (e10 : c2 = constantI S_ 32 (BitVec.ofNat 32 l2)) (e11 : b2 = broadcastInDim s ![] hb c2)
    (e12 : h2 = Host.shli z1 b2) (e13 : t2 = constantI S_ 32 (BitVec.ofNat 32 r2)) (e14 : d2 = broadcastInDim s ![] hb t2)
    (e15 : g2 = Host.shrui z1 d2) (e16 : q2 = ori h2 g2) (e17 : z2 = xori o2 q2)
    (e18 : o3 = addi o2 z2) (e19 : c3 = constantI S_ 32 (BitVec.ofNat 32 l3)) (e20 : b3 = broadcastInDim s ![] hb c3)
    (e21 : h3 = Host.shli z2 b3) (e22 : t3 = constantI S_ 32 (BitVec.ofNat 32 r3)) (e23 : d3 = broadcastInDim s ![] hb t3)
    (e24 : g3 = Host.shrui z2 d3) (e25 : q3 = ori h3 g3) (e26 : z3 = xori o3 q3)
    (e27 : o4 = addi o3 z3) (e28 : c4 = constantI S_ 32 (BitVec.ofNat 32 l4)) (e29 : b4 = broadcastInDim s ![] hb c4)
    (e30 : h4 = Host.shli z3 b4) (e31 : t4 = constantI S_ 32 (BitVec.ofNat 32 r4)) (e32 : d4 = broadcastInDim s ![] hb t4)
    (e33 : g4 = Host.shrui z3 d4) (e34 : q4 = ori h4 g4) (e35 : z4 = xori o4 q4)
    (e36 : ba = broadcastInDim s ![] hb ta) (e37 : o = addi o4 ba) (e38 : bb = broadcastInDim s ![] hb tb) (e39 : w = addi z4 bb)
    (e40 : c = constantI S_ 32 n) (e41 : bc = broadcastInDim s ![] hb c) (e42 : z = addi w bc) :
    ∀ i, (o i, z i) = keyed ka kb n (mix l4 r4 (mix l3 r3 (mix l2 r2 (mix l1 r1 (p i))))) :=
  have m1 := mix_at hp e0 e1 e2 e3 e4 e5 e6 e7 e8 hl.1.1 hl.1.2
  have m2 := mix_at m1 e9 e10 e11 e12 e13 e14 e15 e16 e17 hl.2.1.1 hl.2.1.2
  have m3 := mix_at m2 e18 e19 e20 e21 e22 e23 e24 e25 e26 hl.2.2.1.1 hl.2.2.1.2
  have m4 := mix_at m3 e27 e28 e29 e30 e31 e32 e33 e34 e35 hl.2.2.2.1 hl.2.2.2.2
  keyed_at m4 ha hb' e36 e37 e38 e39 e40 e41 e42

variable {F : FTy → Type} [FloatOps F]

local notation "TR" => StableHlo.TRef sig

set_option maxHeartbeats 4000000

/-- The cipher on two pairs. -/
theorem threefry_at (a b : TR ⟨S_, .i32⟩) (x y : TR ⟨S2, .i32⟩) (φ : fn_threefry2x32.Bufs) (V : Valuation τ sig (Elt F))
    (h : Hold V (threefry2x32 (F := F) a b x y φ).steps) (i : S2.Idx) :
    ((rd V φ.v171 : T32 S2) i, (rd V φ.v175 : T32 S2) i)
      = cipher ((rd V a : T32 S_) nil) ((rd V b : T32 S_) nil) ((rd V x : T32 S2) i, (rd V y : T32 S2) i) := by
  obtain ⟨h0, h⟩ := hold_append V _ _ h
  obtain ⟨h1, h⟩ := hold_append V _ _ h
  obtain ⟨h2, h3⟩ := hold_append V _ _ h
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, -⟩ := h0
  obtain ⟨e60, e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e109, e110, e111, e112, e113, e114, e115, e116, e117, e118, e119, -⟩ := h1
  obtain ⟨e120, e121, e122, e123, e124, e125, e126, e127, e128, e129, e130, e131, e132, e133, e134, e135, e136, e137, e138, e139, e140, e141, e142, e143, e144, e145, e146, e147, e148, e149, e150, e151, e152, e153, e154, e155, e156, e157, e158, e159, e160, e161, e162, e163, e164, e165, e166, e167, e168, e169, e170, e171, e172, e173, e174, e175, e176, e177, e178, e179, -⟩ := h2
  obtain ⟨e180, e181, e182, e183, e184, e185, e186, e187, e188, e189, e190, e191, e192, e193, e194, e195, e196, e197, e198, e199, e200, e201, e202, e203, e204, e205, e206, e207, e208, e209, e210, e211, e212, e213, e214, e215, e216, e217, e218, e219, e220, e221, -⟩ := h3
  have k3 : (rd V φ.v1 : T32 S_) nil = third ((rd V a : T32 S_) nil) ((rd V b : T32 S_) nil) := by
    rw [show rd V φ.v1 = _ from e2, show rd V φ.c = _ from e1, show rd V φ.v0 = _ from e0]; rfl
  have s0 := start_at (hb := bcast_S_S2) e3 e4 e5 e6
  have s1 := group_at 13 19 15 17 26 6 6 26 (by decide) s0 rfl k3 e7 e8 e9 e10 e11 e12 e13 e14 e15 e16 e17 e18 e19 e20 e21 e22 e23 e24 e25 e26 e27 e28 e29 e30 e31 e32 e33 e34 e35 e36 e37 e38 e39 e40 e41 e42 e43 e44 e45 e46 e47 e48 e49
  have s2 := group_at 17 15 29 3 16 16 24 8 (by decide) s1 k3 rfl e50 e51 e52 e53 e54 e55 e56 e57 e58 e59 e60 e61 e62 e63 e64 e65 e66 e67 e68 e69 e70 e71 e72 e73 e74 e75 e76 e77 e78 e79 e80 e81 e82 e83 e84 e85 e86 e87 e88 e89 e90 e91 e92
  have s3 := group_at 13 19 15 17 26 6 6 26 (by decide) s2 rfl rfl e93 e94 e95 e96 e97 e98 e99 e100 e101 e102 e103 e104 e105 e106 e107 e108 e109 e110 e111 e112 e113 e114 e115 e116 e117 e118 e119 e120 e121 e122 e123 e124 e125 e126 e127 e128 e129 e130 e131 e132 e133 e134 e135
  have s4 := group_at 17 15 29 3 16 16 24 8 (by decide) s3 rfl k3 e136 e137 e138 e139 e140 e141 e142 e143 e144 e145 e146 e147 e148 e149 e150 e151 e152 e153 e154 e155 e156 e157 e158 e159 e160 e161 e162 e163 e164 e165 e166 e167 e168 e169 e170 e171 e172 e173 e174 e175 e176 e177 e178
  have s5 := group_at 13 19 15 17 26 6 6 26 (by decide) s4 k3 rfl e179 e180 e181 e182 e183 e184 e185 e186 e187 e188 e189 e190 e191 e192 e193 e194 e195 e196 e197 e198 e199 e200 e201 e202 e203 e204 e205 e206 e207 e208 e209 e210 e211 e212 e213 e214 e215 e216 e217 e218 e219 e220 e221
  exact s5 i

/-- The cipher on four pairs. -/
theorem threefry_1_at (a b : TR ⟨S_, .i32⟩) (x y : TR ⟨S4, .i32⟩) (φ : fn_threefry2x32_1.Bufs) (V : Valuation τ sig (Elt F))
    (h : Hold V (threefry2x32_1 (F := F) a b x y φ).steps) (i : S4.Idx) :
    ((rd V φ.v171 : T32 S4) i, (rd V φ.v175 : T32 S4) i)
      = cipher ((rd V a : T32 S_) nil) ((rd V b : T32 S_) nil) ((rd V x : T32 S4) i, (rd V y : T32 S4) i) := by
  obtain ⟨h0, h⟩ := hold_append V _ _ h
  obtain ⟨h1, h⟩ := hold_append V _ _ h
  obtain ⟨h2, h3⟩ := hold_append V _ _ h
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, -⟩ := h0
  obtain ⟨e60, e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e109, e110, e111, e112, e113, e114, e115, e116, e117, e118, e119, -⟩ := h1
  obtain ⟨e120, e121, e122, e123, e124, e125, e126, e127, e128, e129, e130, e131, e132, e133, e134, e135, e136, e137, e138, e139, e140, e141, e142, e143, e144, e145, e146, e147, e148, e149, e150, e151, e152, e153, e154, e155, e156, e157, e158, e159, e160, e161, e162, e163, e164, e165, e166, e167, e168, e169, e170, e171, e172, e173, e174, e175, e176, e177, e178, e179, -⟩ := h2
  obtain ⟨e180, e181, e182, e183, e184, e185, e186, e187, e188, e189, e190, e191, e192, e193, e194, e195, e196, e197, e198, e199, e200, e201, e202, e203, e204, e205, e206, e207, e208, e209, e210, e211, e212, e213, e214, e215, e216, e217, e218, e219, e220, e221, -⟩ := h3
  have k3 : (rd V φ.v1 : T32 S_) nil = third ((rd V a : T32 S_) nil) ((rd V b : T32 S_) nil) := by
    rw [show rd V φ.v1 = _ from e2, show rd V φ.c = _ from e1, show rd V φ.v0 = _ from e0]; rfl
  have s0 := start_at (hb := bcast_S_S4) e3 e4 e5 e6
  have s1 := group_at 13 19 15 17 26 6 6 26 (by decide) s0 rfl k3 e7 e8 e9 e10 e11 e12 e13 e14 e15 e16 e17 e18 e19 e20 e21 e22 e23 e24 e25 e26 e27 e28 e29 e30 e31 e32 e33 e34 e35 e36 e37 e38 e39 e40 e41 e42 e43 e44 e45 e46 e47 e48 e49
  have s2 := group_at 17 15 29 3 16 16 24 8 (by decide) s1 k3 rfl e50 e51 e52 e53 e54 e55 e56 e57 e58 e59 e60 e61 e62 e63 e64 e65 e66 e67 e68 e69 e70 e71 e72 e73 e74 e75 e76 e77 e78 e79 e80 e81 e82 e83 e84 e85 e86 e87 e88 e89 e90 e91 e92
  have s3 := group_at 13 19 15 17 26 6 6 26 (by decide) s2 rfl rfl e93 e94 e95 e96 e97 e98 e99 e100 e101 e102 e103 e104 e105 e106 e107 e108 e109 e110 e111 e112 e113 e114 e115 e116 e117 e118 e119 e120 e121 e122 e123 e124 e125 e126 e127 e128 e129 e130 e131 e132 e133 e134 e135
  have s4 := group_at 17 15 29 3 16 16 24 8 (by decide) s3 rfl k3 e136 e137 e138 e139 e140 e141 e142 e143 e144 e145 e146 e147 e148 e149 e150 e151 e152 e153 e154 e155 e156 e157 e158 e159 e160 e161 e162 e163 e164 e165 e166 e167 e168 e169 e170 e171 e172 e173 e174 e175 e176 e177 e178
  have s5 := group_at 13 19 15 17 26 6 6 26 (by decide) s4 k3 rfl e179 e180 e181 e182 e183 e184 e185 e186 e187 e188 e189 e190 e191 e192 e193 e194 e195 e196 e197 e198 e199 e200 e201 e202 e203 e204 e205 e206 e207 e208 e209 e210 e211 e212 e213 e214 e215 e216 e217 e218 e219 e220 e221
  exact s5 i

end Cert.Proof.Ref

end
-- ==== Proof.Ids.lean ====
/-
  The row numbers the reference draws: `jax.random.randint` under the key 1, four words below 8192, read off the program's
  equations. The span is a power of two dividing 65536, so only the second of the two draws counts.
-/
module

public import proofs.«01_k».proof.Proof.Threefry

@[expose] public section

noncomputable section

namespace Cert.Proof.Ref

open Cert.ReferenceIdeal Cert.ReferenceIdeal.Gen
open Idealize.ShloMosaic
open Idealize.ShloMosaic.StableHlo
open Cert.Proof.Equations

/-! ## The words -/

/-- The row each batch element takes. -/
def sel : Fin 4 → Fin 8192 := ![7932, 943, 736, 7017]

/-- The second key of the split. -/
theorem second_key : cipher 0#32 1#32 (0#32, 1#32) = (1948878966#32, 4237131848#32) := by decide +kernel

/-- The four draws under it. -/
theorem draws : ∀ i : Fin 4, IntOp.xori (cipher 1948878966#32 4237131848#32 (0#32, BitVec.ofNat 32 i.val)).1
    (cipher 1948878966#32 4237131848#32 (0#32, BitVec.ofNat 32 i.val)).2 % 8192#32 = BitVec.ofNat 32 (sel i).val := by decide +kernel

/-! ## Closed tensors -/

/-- An index of a two-word tensor. -/
def at2 (k : Fin 2) : S2.Idx := fun a => ⟨k.val, match a with | ⟨0, _⟩ => k.isLt⟩

/-- The key's two words. -/
def keyT : T32 S2 := fun i => BitVec.ofNat 32 (i 0).val

theorem keyT_eq : concatenate S2 0 [⟨S1, constantI S1 32 0#32⟩, ⟨S1, constantI S1 32 1#32⟩] concatenates_S1_S1_S2_d0 = keyT := by
  have : ∀ i, concatenate S2 0 [⟨S1, constantI S1 32 0#32⟩, ⟨S1, constantI S1 32 1#32⟩] concatenates_S1_S1_S2_d0 i = keyT i := by
    decide +kernel
  exact funext this

/-- The first word of a two-word tensor, as the program takes it, and the second. -/
theorem word0 (x : T32 S2) : shapeCast S_ (extractStridedSlice S1 ![0] x slices_S2_S1_0) shapeCasts_S1_S_ nil = x (at2 0) := by
  refine congrArg x (funext fun a => ?_)
  fin_cases a; rfl
theorem word1 (x : T32 S2) : shapeCast S_ (extractStridedSlice S1 ![1] x slices_S2_S1_1) shapeCasts_S1_S_ nil = x (at2 1) := by
  refine congrArg x (funext fun a => ?_)
  fin_cases a; rfl

/-- A count along one axis as the low word of a 64-bit count, and its high word. -/
theorem low2 : ∀ i : S2.Idx, trunci 32 (muli (broadcastInDim S2 ![] bcast_S_S2 (constantI S_ 64 1#64)) (iotaInDim S2 64 0)) natLt_32_64 i
    = BitVec.ofNat 32 (i 0).val := by decide +kernel
theorem high2 : ∀ i : S2.Idx, trunci 32 (Host.shrui (muli (broadcastInDim S2 ![] bcast_S_S2 (constantI S_ 64 1#64)) (iotaInDim S2 64 0))
    (broadcastInDim S2 ![] bcast_S_S2 (constantI S_ 64 32#64))) natLt_32_64 i = 0#32 := by decide +kernel
theorem low4 : ∀ i : S4.Idx, trunci 32 (muli (broadcastInDim S4 ![] bcast_S_S4 (constantI S_ 64 1#64)) (iotaInDim S4 64 0)) natLt_32_64 i
    = BitVec.ofNat 32 (i 0).val := by decide +kernel
theorem high4 : ∀ i : S4.Idx, trunci 32 (Host.shrui (muli (broadcastInDim S4 ![] bcast_S_S4 (constantI S_ 64 1#64)) (iotaInDim S4 64 0))
    (broadcastInDim S4 ![] bcast_S_S4 (constantI S_ 64 32#64))) natLt_32_64 i = 0#32 := by decide +kernel

/-- An index of the one-row table. -/
def at12 (k : Fin 2) : S1x2.Idx := fun a => match a with | ⟨0, _⟩ => ⟨0, Nat.one_pos⟩ | ⟨1, _⟩ => k

theorem cast12 : ∀ k : Fin 2, Shape.reshapeEquiv shapeCasts_S1x2_S2 (at2 k) = at12 k := by decide +kernel

/-- Two columns set side by side, at the second row. -/
theorem row1 (u w : T32 S2) (k : Fin 2) : shapeCast S2 (extractStridedSlice S1x2 ![1, 0]
      (concatenate S2x2 1 [⟨S2x1, broadcastInDim S2x1 ![0] bcast_S2_S2x1_0 u⟩, ⟨S2x1, broadcastInDim S2x1 ![0] bcast_S2_S2x1_0 w⟩]
        concatenates_S2x1_S2x1_S2x2_d1) slices_S2x2_S1x2_1_0) shapeCasts_S1x2_S2 (at2 k)
    = if k = 0 then u (at2 1) else w (at2 1) := by
  unfold shapeCast
  rw [cast12]
  fin_cases k
  · exact congrArg u (funext fun a => match a with | ⟨0, _⟩ => rfl)
  · exact congrArg w (funext fun a => match a with | ⟨0, _⟩ => rfl)

end Cert.Proof.Ref

end
-- ==== Proof.Randint.lean ====
/-
  The reference's draw: the split of the key, then `randint`, read off their equations.
-/
module

public import proofs.«01_k».proof.Proof.Ids

@[expose] public section

noncomputable section

namespace Cert.Proof.Ref

open Cert.ReferenceIdeal Cert.ReferenceIdeal.Gen
open Idealize.ShloMosaic
open Idealize.ShloMosaic.StableHlo
open Cert.Proof.Equations

variable {F : FTy → Type} [FloatOps F]

local notation "TR" => StableHlo.TRef sig

set_option maxHeartbeats 4000000

/-- The split of the key `0, 1`: the second row of the table is the second key, word by word. -/
theorem split_at (a : TR ⟨S2, .i32⟩) (φ : fn_threefry_split.Bufs) (V : Valuation τ sig (Elt F))
    (h : Hold V (threefry_split (F := F) a φ).steps) (ha : (rd V a : T32 S2) = keyT) (k : Fin 2) :
    shapeCast S2 (extractStridedSlice S1x2 ![1, 0] (rd V φ.v14 : T32 S2x2) slices_S2x2_S1x2_1_0) shapeCasts_S1x2_S2 (at2 k)
      = if k = 0 then 1948878966#32 else 4237131848#32 := by
  obtain ⟨e0, e1, e2, e3, e4, ec, e5, e6, ec0, e7, e8, e9, e10, h⟩ := h
  obtain ⟨h0, e12, e13, e14, -⟩ := hold_append V (threefry2x32 _ _ _ _ _).steps _ h
  have hc := threefry_at _ _ _ _ _ V h0 (at2 1)
  have k0 : (rd V φ.v1 : T32 S_) nil = 0#32 := by
    rw [show rd V φ.v1 = _ from e1, show rd V φ.v0 = _ from e0, ha]; exact word0 keyT
  have k1 : (rd V φ.v3 : T32 S_) nil = 1#32 := by
    rw [show rd V φ.v3 = _ from e3, show rd V φ.v2 = _ from e2, ha]; exact word1 keyT
  have hx : (rd V φ.v10 : T32 S2) (at2 1) = 0#32 := by
    rw [show rd V φ.v10 = _ from e10, show rd V φ.v8 = _ from e8, show rd V φ.v7 = _ from e7, show rd V φ.c_0 = _ from ec0,
      show rd V φ.v6 = _ from e6, show rd V φ.v5 = _ from e5, show rd V φ.c = _ from ec, show rd V φ.v4 = _ from e4]
    exact high2 _
  have hy : (rd V φ.v9 : T32 S2) (at2 1) = 1#32 := by
    rw [show rd V φ.v9 = _ from e9, show rd V φ.v6 = _ from e6, show rd V φ.v5 = _ from e5, show rd V φ.c = _ from ec,
      show rd V φ.v4 = _ from e4]
    exact low2 _
  rw [k0, k1, hx, hy, second_key] at hc
  rw [show rd V φ.v14 = _ from e14, show rd V φ.v12 = _ from e12, show rd V φ.v13 = _ from e13]
  refine (row1 _ _ k).trans ?_
  rw [show (rd V φ.call0.v171 : T32 S2) (at2 1) = _ from congrArg Prod.fst hc,
    show (rd V φ.call0.v175 : T32 S2) (at2 1) = _ from congrArg Prod.snd hc]

/-- A row number is below the span. -/
theorem small : ∀ i : Fin 4, (0#32 + BitVec.ofNat 32 (sel i).val) % 8192#32 = BitVec.ofNat 32 (sel i).val := by decide +kernel

/-- The first draw's factor, 65536 squared modulo the span. -/
theorem factor : ∀ j : S1.Idx, Host.remui (muli (Host.remui (broadcastInDim S1 ![] bcast_S_S1 (constantI S_ 32 65536#32)) (constantI S1 32 8192#32))
    (Host.remui (broadcastInDim S1 ![] bcast_S_S1 (constantI S_ 32 65536#32)) (constantI S1 32 8192#32))) (constantI S1 32 8192#32) j
      = constantI S1 32 0#32 j := by decide +kernel

/-- The upper bound is not past the type's greatest word. -/
theorem inside : ∀ j : S1.Idx, andi (broadcastInDim S1 ![] bcast_S_S1 (cmpi .sgt (constantI S_ 32 8192#32)
    (minsi (constantI S_ 32 2147483647#32) (maxsi (constantI S_ 32 2147483648#32) (constantI S_ 32 2147483647#32)))))
    (cmpi .sgt (constantI S1 32 8192#32) (constantI S1 32 0#32)) j = constantI S1 1 0#1 j := by decide +kernel

/-- The upper bound, clipped to its type's range. -/
theorem upper : ∀ j : S1.Idx, broadcastInDim S1 ![] bcast_S_S1
    (id (minsi (constantI S_ 32 2147483647#32) (maxsi (constantI S_ 32 2147483648#32) (constantI S_ 32 8192#32)))) j
      = constantI S1 32 8192#32 j := by decide +kernel

/-- The span: the bounds are in order, so it is their difference. -/
theorem span (u : T32 S1) : ∀ j : S1.Idx, select (cmpi .sle (constantI S1 32 8192#32) (constantI S1 32 0#32)) u
    (id (subi (constantI S1 32 8192#32) (constantI S1 32 0#32))) j = constantI S1 32 8192#32 j := by
  intro j
  unfold select Scalar.select
  refine (if_neg (show ¬ (IntOp.cmpi .sle 8192#32 0#32 = 1) by decide)).trans ?_
  exact show IntOp.subi 8192#32 0#32 = 8192#32 by decide

/-- A remainder by the span. -/
theorem rem_at (x : T32 S4) (i : S4.Idx) :
    Host.remui x (broadcastInDim S4 ![0] bcast_S1_S4_0 (constantI S1 32 8192#32)) i = x i % 8192#32 := by
  unfold Host.remui IntOp.remui
  exact if_neg (show ¬ (8192#32 = 0#32) by decide)

/-- `randint` under the key `0, 1` between 0 and 8192: the four row numbers. -/
theorem randint_at (a : TR ⟨S2, .i32⟩) (b c : TR ⟨S_, .i32⟩) (φ : fn_randint.Bufs) (V : Valuation τ sig (Elt F))
    (h : Hold V (randint (F := F) a b c φ).steps) (ha : (rd V a : T32 S2) = keyT) (hb : (rd V b : T32 S_) = constantI S_ 32 0#32)
    (hc : (rd V c : T32 S_) = constantI S_ 32 8192#32) (i : S4.Idx) :
    (rd V φ.v65 : T32 S4) i = BitVec.ofNat 32 (sel (i 0)).val := by
  obtain ⟨h, h'⟩ := hold_append V (randint_part0 a b c φ).steps _ h
  obtain ⟨f47, f48, f49, f12, f50, f51, f52, f53, f54, f55, f56, f57, f58, f59, f60, f61, f62, f63, f64, f65, -⟩ := h'
  obtain ⟨ec, ec0, ec1, h⟩ := h
  obtain ⟨⟨g0, g1, -⟩, e1, ec2, ec3, h⟩ := hold_append V (clip _ _ _ _).steps _ h
  obtain ⟨⟨g2, g3, -⟩, e3, ec4, ec5, h⟩ := hold_append V (clip_0 _ _ _ _).steps _ h
  obtain ⟨⟨g4, g5, -⟩, e5, e6, e7, h⟩ := hold_append V (clip_0 _ _ _ _).steps _ h
  obtain ⟨hs, e9, e10, e11, e12, e13, e14, e15, e16, e17, ec6, e18, e19, ec7, e20, e21, e22, e23, h⟩ :=
    hold_append V (threefry_split _ _).steps _ h
  obtain ⟨-, e25, e26, e27, e28, e29, e30, ec8, e31, e32, ec9, e33, e34, e35, e36, h⟩ :=
    hold_append V (threefry2x32_1 _ _ _ _ _).steps _ h
  obtain ⟨ht, e38, e39, e40, e41, ec10, e42, e43, e44, e45, e46, ec11, -⟩ := hold_append V (threefry2x32_1 _ _ _ _ _).steps _ h
  -- the second key
  have hk := split_at _ _ V hs ha
  have k0 : (rd V φ.v27 : T32 S_) nil = 1948878966#32 := by
    rw [e27, e26]
    refine (word0 _).trans ?_
    rw [e12, e11]
    exact hk 0
  have k1 : (rd V φ.v29 : T32 S_) nil = 4237131848#32 := by
    rw [e29, e28]
    refine (word1 _).trans ?_
    rw [e12, e11]
    exact hk 1
  -- the draw under it
  have hx : (rd V φ.v36 : T32 S4) i = 0#32 := by
    rw [e36, e34, e33, ec9, e32, e31, ec8, e30]; exact high4 i
  have hy : (rd V φ.v35 : T32 S4) i = BitVec.ofNat 32 (i 0).val := by
    rw [e35, e32, e31, ec8, e30]; exact low4 i
  have hd := threefry_1_at _ _ _ _ _ V ht i
  rw [k0, k1, hx, hy] at hd
  have w38 : (rd V φ.v38 : T32 S4) i = IntOp.xori (cipher 1948878966#32 4237131848#32 (0#32, BitVec.ofNat 32 (i 0).val)).1
      (cipher 1948878966#32 4237131848#32 (0#32, BitVec.ofNat 32 (i 0).val)).2 := by
    rw [e38, ← hd]; rfl
  -- the bounds and the span
  have w6 : (rd V φ.v6 : T32 S1) = constantI S1 32 0#32 := by
    rw [e6, e3, g3, g2, ec3, ec2, hb]; rfl
  have w7 : (rd V φ.v7 : T32 S1) = constantI S1 32 8192#32 := by
    rw [e7, e5, g5, g4, ec5, ec4, hc]; exact funext upper
  have w43 : (rd V φ.v43 : T32 S1) = constantI S1 32 8192#32 := by
    rw [e43, e41, e40, e39, w6, w7]; exact funext (span _)
  have w46 : (rd V φ.v46 : S1.Idx → BitVec 1) = constantI S1 1 0#1 := by
    rw [e46, e45, e44, e1, g1, g0, ec1, ec0, ec, hc, w6, w7]; exact funext inside
  have w49 : (rd V φ.v49 : T32 S1) = constantI S1 32 8192#32 := by
    rw [f49, w46, w43]; rfl
  -- 65536 is a multiple of the span, so the first draw's factor is zero
  have w53 : (rd V φ.v53 : T32 S1) = constantI S1 32 0#32 := by
    rw [f53, f52, f51, f50, f12, w49]; exact funext factor
  have w57 : (rd V φ.v57 : T32 S4) = constantI S4 32 0#32 := by
    rw [f57, f56, w53]; funext j; exact BitVec.mul_zero
  have w59 : (rd V φ.v59 : T32 S4) i = BitVec.ofNat 32 (sel (i 0)).val := by
    rewrite [f59, f58, w49, ← draws (i 0), ← w38]; exact rem_at _ i
  have w62 : (rd V φ.v62 : T32 S4) i = BitVec.ofNat 32 (sel (i 0)).val := by
    rewrite [f62, f61, f60, w57, w49]
    refine (rem_at _ i).trans ?_
    show (0#32 + (rd V φ.v59 : T32 S4) i) % 8192#32 = _
    rw [w59]
    exact small (i 0)
  rw [f65, f64, f63, w6]
  show 0#32 + (rd V φ.v62 : T32 S4) i = _
  rw [w62, BitVec.zero_add]

end Cert.Proof.Ref

end
-- ==== Proof.Single.lean ====
/-
  The reference writes every buffer once: checked by computation, over its lines.
-/
module

public import proofs.«01_k».proof.Proof.Lines
public import Idealize.ShloMosaic.Lib.Claim

@[expose] public section

noncomputable section

namespace Cert.Proof.Ref

open Cert.ReferenceIdeal Cert.ReferenceIdeal.Gen
open Idealize.ShloMosaic
open Idealize.ShloMosaic.StableHlo
open Idealize.SL.Sem
open Cert.Proof.Equations

variable {F : FTy → Type} [FloatOps F]

/-- Buffers in the order the program numbers them. -/
abbrev key (r : Ref sig .tc) : Nat := r.idx.val

set_option maxHeartbeats 0 in
/-- The program writes its buffers one by one in that order. -/
theorem single (d : Dev nD) : increasing key 1 (whole (F := F) d).steps = true := rfl

end Cert.Proof.Ref

end
-- ==== Proof.RefRun.lean ====
/-
  The reference's run, over any float values: it ends, leaving its argument as it was, and a valuation in which every
  operation's equation holds.
-/
module

public import proofs.«01_k».proof.Proof.Single
public import Idealize.ShloMosaic.Lib.Claim
public import Idealize.ShloMosaic.Lib.Quiescent

@[expose] public section

noncomputable section

namespace Cert.Proof.Ref

open Cert.ReferenceIdeal Cert.ReferenceIdeal.Gen
open Idealize.ShloMosaic
open Idealize.ShloMosaic.StableHlo
open Idealize.SL.Sem
open Cert.Proof.Equations

variable {F : FTy → Type} [FloatOps F]

/-- Nothing of the reference's is scoped. -/
theorem scopedRefs_eq : (Finset.univ.filter fun b : Ref sig .tc => b.isScoped) = ∅ := by decide +kernel
/-- Nor any semaphore. -/
theorem scopedSems_eq : (Finset.univ.filter fun sm : SemLoc sig => sm.isScoped .tc) = ∅ := by decide +kernel

/-- The reference declares no semaphore. -/
theorem sem_zero (s : MemSt nD τ sig (Elt F)) : s.sem = fun _ => 0 := sem_eq_zero_of_no_sems rfl s

/-- The reference's run: the argument is kept, and the final contents satisfy every operation's equation. -/
theorem run_eqs (m : (ℓ : Loc nD τ sig) → Buf (Elt F) ℓ) (ρ : Dev nD → PrngReg) :
    θ_run defs (onTc (τ := τ) (main (F := F))) ⟨m, fun _ => 0, ρ⟩ fun r => ∀ d : Dev nD, ∃ V : Valuation τ sig (Elt F),
      (∀ b : Ref sig .tc, r.2.mem ((d.tc : Thread nD τ).loc b) = V (Proc.devRef .tc b))
        ∧ V (Proc.devRef .tc main_arg0) = m ((d.tc : Thread nD τ).loc main_arg0)
        ∧ Hold V (whole (F := F) d).steps := by
  refine (θ_run _ _ _).mono ?_ (run_seq scopedRefs_eq scopedSems_eq defs (main (F := F))
    (fun d => (whole d).steps.map Step.op) (fun d => (whole d).eq) (fun d => ?_) m ρ (fun d op hop => ?_))
  · intro r h d
    refine ⟨after ((whole d).steps.map Step.op) (launchContents m d), h d, ?_, hold_of_forall _ _ ?_⟩
    · rw [after_low key main_arg0 _ 1 _ (single d) (Nat.zero_lt_one)]
    · exact after_hold key _ 1 _ (single d)
  · rw [List.forall_iff_forall_mem]
    intro op hop
    obtain ⟨s, -, rfl⟩ := List.mem_map.mp hop
    exact s.bufs
  · obtain ⟨s, -, rfl⟩ := List.mem_map.mp hop
    exact s.fresh

end Cert.Proof.Ref

end
-- ==== Proof.Gather.lean ====
/-
  The reference's result: the rows its gather takes, from the row numbers drawn.
-/
module

public import proofs.«01_k».proof.Proof.Randint
public import proofs.«01_k».proof.Proof.RefRun

@[expose] public section

noncomputable section

namespace Cert.Proof.Ref

open Cert.ReferenceIdeal Cert.ReferenceIdeal.Gen
open Idealize.ShloMosaic
open Idealize.ShloMosaic.StableHlo
open Idealize.SL.Sem
open Cert.Proof.Equations

/-- The element of the tokens that the result takes at `j`: its batch's chosen row, at its column. -/
def rowIdx (j : S4x2048.Idx) : S4x8192x2048.Idx := fun a =>
  match a with | ⟨0, _⟩ => j 0 | ⟨1, _⟩ => sel (j 0) | ⟨2, _⟩ => j 1

/-- Each batch's chosen row. -/
def rows {α : Type} (x : S4x8192x2048.Idx → α) : S4x2048.Idx → α := fun j => x (rowIdx j)

/-- The pairs of batch and row the gather starts at. -/
def starts : T32 S4x2 := fun i => if (i 1).val = 0 then BitVec.ofNat 32 (i 0).val else BitVec.ofNat 32 (sel (i 0)).val

theorem clamp0 : ∀ b : Fin 4, min (BitVec.ofNat 32 b.val).toInt.toNat 3 = b.val := by decide +kernel
theorem clamp1 : ∀ b : Fin 4, min (BitVec.ofNat 32 (sel b).val).toInt.toNat 8191 = (sel b).val := by decide +kernel

/-- The program's gather. -/
abbrev G := gather_S4x8192x2048_S4x2_S4x2048_1_01_n_n_01_1_112048

/-- The gather reads the chosen rows. -/
theorem gather_rows {α : Type} (x : S4x8192x2048.Idx → α) : Host.gather G x starts = rows x := by
  funext j
  refine congrArg x (funext fun a => Fin.ext ?_)
  show G.start j starts a + G.batchCoord j a + G.offCoord j a = _
  rw [G.batchCoord_eq_zero j a (by exact List.not_mem_nil)]
  match a with
  | ⟨0, _⟩ =>
    rw [G.offCoord_eq_zero j _ (by decide +revert)]
    exact clamp0 (j 0)
  | ⟨1, _⟩ =>
    rw [G.offCoord_eq_zero j _ (by decide +revert)]
    exact clamp1 (j 0)
  | ⟨2, _⟩ =>
    exact Nat.zero_add _

/-! ## The program whole -/

/-- The batch numbers, never negative, so never moved. -/
theorem batches : ∀ i : S4.Idx, select (cmpi .slt (iotaInDim S4 32 0) (broadcastInDim S4 ![] bcast_S_S4 (constantI S_ 32 0#32)))
    (addi (iotaInDim S4 32 0) (broadcastInDim S4 ![] bcast_S_S4 (constantI S_ 32 4#32))) (iotaInDim S4 32 0) i
      = BitVec.ofNat 32 (i 0).val := by decide +kernel

/-- The row numbers as a tensor. -/
def selT : T32 S4 := fun i => BitVec.ofNat 32 (sel (i 0)).val

/-- Nor the row numbers. -/
theorem unmoved : ∀ i : S4.Idx, select (cmpi .slt selT (broadcastInDim S4 ![] bcast_S_S4 (constantI S_ 32 0#32)))
    (addi selT (broadcastInDim S4 ![] bcast_S_S4 (constantI S_ 32 8192#32))) selT i = selT i := by decide +kernel

/-- The two set side by side. -/
theorem paired : ∀ i : S4x2.Idx, concatenate S4x2 1
    [⟨S4x1, broadcastInDim S4x1 ![0] bcast_S4_S4x1_0 (fun i : S4.Idx => BitVec.ofNat 32 (i 0).val)⟩,
      ⟨S4x1, broadcastInDim S4x1 ![0] bcast_S4_S4x1_0 selT⟩] concatenates_S4x1_S4x1_S4x2_d1 i = starts i := by decide +kernel

/-- The key's words, as the program makes them from the seed 1. -/
theorem seed_high : ∀ i : S1.Idx, broadcastInDim S1 ![] bcast_S_S1 (id (Host.shrui (constantI S_ 32 1#32) (constantI S_ 32 32#32))) i
    = constantI S1 32 0#32 i := by decide +kernel
theorem seed_low : ∀ i : S1.Idx, broadcastInDim S1 ![] bcast_S_S1 (id (andi (constantI S_ 32 1#32) (constantI S_ 32 4294967295#32))) i
    = constantI S1 32 1#32 i := by decide +kernel

variable {F : FTy → Type} [FloatOps F]

local notation "TR" => StableHlo.TRef sig

/-- Where every equation of the reference holds, its result is the chosen rows of its argument. -/
theorem result_eq (d : Dev nD) (V : Valuation τ sig (Elt F)) (h : Hold V (whole (F := F) d).steps) :
    (V (Proc.devRef .tc main_v22) : S4x2048.Idx → Elt F .f32) = rows (V (Proc.devRef .tc main_arg0) : S4x8192x2048.Idx → Elt F .f32) := by
  obtain ⟨ec, ec0, e0, e1, e2, ec1, e3, e4, e5, e6, ec2, ec3, h⟩ := h
  obtain ⟨hr, e8, ec4, e9, e10, ec5, e11, e12, e13, ec6, e14, e15, ec7, e16, e17, e18, e19, e20, e21, e22, -⟩ :=
    hold_append V (randint _ _ _ _).steps _ h
  have w6 : (rd V (.of main_v6 : TR ⟨S2, .i32⟩) : T32 S2) = keyT := by
    refine Eq.trans e6 (Eq.trans ?_ keyT_eq)
    rw [e2, e1, e0, ec0, e5, e4, e3, ec1, ec]
    exact congrArg₂ (fun a b : T32 S1 => concatenate S2 0 [⟨S1, a⟩, ⟨S1, b⟩] concatenates_S1_S1_S2_d0) (funext seed_high) (funext seed_low)
  have w7 : (V (Proc.devRef .tc main_v7) : T32 S4) = selT := funext fun i => randint_at _ _ _ _ V hr w6 ec2 ec3 i
  have w13 : (V (Proc.devRef .tc main_v13) : T32 S4) = fun i => BitVec.ofNat 32 (i 0).val := by
    refine Eq.trans e13 ?_
    rw [e12, e11, ec5, e10, e9, ec4, e8]
    exact funext batches
  have w18 : (V (Proc.devRef .tc main_v18) : T32 S4) = selT := by
    refine Eq.trans e18 ?_
    rw [e17, e16, ec7, e15, e14, ec6, show rd V (bare main_v7 _) = selT from w7]
    exact funext unmoved
  have w21 : (V (Proc.devRef .tc main_v21) : T32 S4x2) = starts := by
    refine Eq.trans e21 ?_
    rw [e19, e20, show rd V (bare main_v13 _) = _ from w13, show rd V (bare main_v18 _) = _ from w18]
    exact funext paired
  refine Eq.trans e22 ?_
  rw [show rd V (bare main_v21 _) = _ from w21]
  exact gather_rows _

/-- The reference's run: the result holds the chosen rows, the argument is kept, every counter is zero. -/
theorem run_main (m : (ℓ : Loc nD τ sig) → Buf (Elt F) ℓ) (ρ : Dev nD → PrngReg) :
    θ_run defs (onTc (τ := τ) (main (F := F))) ⟨m, fun _ => 0, ρ⟩ fun r =>
      (∀ d : Dev nD, (r.2.mem ((d.tc : Thread nD τ).loc main_v22) : S4x2048.Idx → Elt F .f32)
          = rows (m ((d.tc : Thread nD τ).loc main_arg0) : S4x8192x2048.Idx → Elt F .f32)
        ∧ r.2.mem ((d.tc : Thread nD τ).loc main_arg0) = m ((d.tc : Thread nD τ).loc main_arg0))
      ∧ r.2.sem = fun _ => 0 := by
  refine (θ_run _ _ _).mono ?_ (run_eqs m ρ)
  intro r h
  refine ⟨fun d => ?_, sem_zero _⟩
  obtain ⟨V, hV, ha, hh⟩ := h d
  refine ⟨?_, (hV main_arg0).trans ha⟩
  refine Eq.trans (hV main_v22) ((result_eq d V hh).trans ?_)
  exact congrArg rows ha

end Cert.Proof.Ref

end
-- ==== Proof.Rows.lean ====
/-
  The four row writes. Copy `b` writes row `b` of the result, whole, from one row of the argument: what it leaves
  at an index depends on the index's row alone, and after all four every row has been written.
-/
module

public import proofs.«01_k».proof.Defs
public import proofs.«01_k».proof.Proof.Gather
public import Idealize.ShloMosaic.Lib.ValueLayout
public import proofs.«01_k».proof.Proof.Gen.KernelIdeal

@[expose] public section

noncomputable section

namespace Cert.Proof.KernelRun

open Cert.KernelIdeal Cert.KernelIdeal.Gen
open Idealize.ShloMosaic

variable {F : FTy → Type}

/-- Row `b` of the result, as the body spells it, and row `r` of batch `b` of the argument. -/
abbrev dstRow (b : Nat) (hb : ∀ a, (![b, 0] : Fin 2 → Nat) a + S1x2048.size a ≤ S4x2048.size a) : Memref sig .scScalar .hbm S2048 .f32 :=
  ((Memref.whole main_v0_scs : Memref sig .scScalar .hbm S4x2048 .f32).slice (Rect.unit (s := S4x2048) ![b, 0] S1x2048.size hb) (fun _ => rfl)).squeeze S2048 squeezes_S1x2048_S2048
abbrev srcRow (b r : Nat) (hb : ∀ a, (![b, r, 0] : Fin 3 → Nat) a + S1x1x2048.size a ≤ S4x8192x2048.size a) : Memref sig .scScalar .hbm S2048 .f32 :=
  ((Memref.whole main_arg0_scs : Memref sig .scScalar .hbm S4x8192x2048 .f32).slice (Rect.unit (s := S4x8192x2048) ![b, r, 0] S1x1x2048.size hb) (fun _ => rfl)).squeeze S2048 squeezes_S1x1x2048_S2048

/-- A column as an index of one row. -/
def at1 (i : Fin 2048) : S2048.Idx := fun a => match a with | ⟨0, _⟩ => i
/-- An index of the result by row and column, and of the argument by batch, row and column. -/
def ixR (b : Fin 4) (i : Fin 2048) : S4x2048.Idx := fun a => match a with | ⟨0, _⟩ => b | ⟨1, _⟩ => i
def ixA (b : Fin 4) (r : Fin 8192) (i : Fin 2048) : S4x8192x2048.Idx := fun a => match a with | ⟨0, _⟩ => b | ⟨1, _⟩ => r | ⟨2, _⟩ => i

theorem at1_eta (x : S2048.Idx) : x = at1 (x 0) := funext fun a => match a with | ⟨0, _⟩ => rfl
theorem ixR_eta (j : S4x2048.Idx) : j = ixR (j 0) (j 1) := funext fun a => match a with | ⟨0, _⟩ => rfl | ⟨1, _⟩ => rfl

/-- A column put back behind the row's unit axis. -/
theorem col2 (x : S2048.Idx) : Shape.reshapeEquiv (s := S1x2048) (s' := S2048) squeezes_S1x2048_S2048.numel_eq x = Fin.cons ⟨0, Nat.one_pos⟩ x :=
  Shape.reshapeEquiv_cons_one (n := 1) (d := ![2048]) _ x

/-- A column put back behind the two unit axes. -/
theorem col3 (x : S2048.Idx) : Shape.reshapeEquiv (s := S1x1x2048) (s' := S2048) squeezes_S1x1x2048_S2048.numel_eq x
    = Fin.cons ⟨0, Nat.one_pos⟩ (Fin.cons ⟨0, Nat.one_pos⟩ x : S1x2048.Idx) :=
  have h : S1x2048.numel = S1x1x2048.numel := by decide
  (Shape.reshapeEquiv_reshapeEquiv h squeezes_S1x2048_S2048.numel_eq x).symm.trans
    ((congrArg (Shape.reshapeEquiv h) (col2 x)).trans (Shape.reshapeEquiv_cons_one (n := 2) (d := ![1, 2048]) h _))

/-- Column `x` of row `b` of the result. -/
theorem dst_emb (b : Nat) (hb) (h4 : b < 4) (x : S2048.Idx) : (dstRow b hb).view.emb x = ixR ⟨b, h4⟩ (x 0) := by
  show (Rect.unit (s := S4x2048) ![b, 0] S1x2048.size hb).emb (Shape.reshapeEquiv (s := S1x2048) (s' := S2048) _ x) = _
  rw [col2]
  funext a
  match a with
  | ⟨0, _⟩ => exact Fin.ext (show b + 0 * 1 = b by omega)
  | ⟨1, _⟩ => exact Fin.ext (show 0 + 1 * (x 0).val = (x 0).val by omega)

/-- Column `x` of row `r` of batch `b` of the argument. -/
theorem src_emb (b r : Nat) (hb) (h4 : b < 4) (hr : r < 8192) (x : S2048.Idx) : (srcRow b r hb).view.emb x = ixA ⟨b, h4⟩ ⟨r, hr⟩ (x 0) := by
  show (Rect.unit (s := S4x8192x2048) ![b, r, 0] S1x1x2048.size hb).emb (Shape.reshapeEquiv (s := S1x1x2048) (s' := S2048) _ x) = _
  rw [col3]
  funext a
  match a with
  | ⟨0, _⟩ => exact Fin.ext (show b + 0 * 1 = b by omega)
  | ⟨1, _⟩ => exact Fin.ext (show r + 0 * 1 = r by omega)
  | ⟨2, _⟩ => exact Fin.ext (show 0 + 1 * (x 0).val = (x 0).val by omega)

/-- Copy `b` at an index: on row `b` the argument's row, elsewhere what was there. -/
theorem copy_at (b r : Nat) (hd) (hs) (h4 : b < 4) (hr : r < 8192) (f : S4x2048.Idx → Elt F .f32) (x : S4x8192x2048.Idx → Elt F .f32) (j : S4x2048.Idx) :
    ((dstRow b hd).view.write (Elt F) f ((srcRow b r hs).view.read (Elt F) x) Finset.univ : S4x2048.Idx → Elt F .f32) j
      = if (j 0).val = b then x (ixA ⟨b, h4⟩ ⟨r, hr⟩ (j 1)) else f j := by
  by_cases hj : (j 0).val = b
  · rw [if_pos hj]
    have e : j = (dstRow b hd).view.emb (at1 (j 1)) := by
      rw [dst_emb b hd h4]
      refine (ixR_eta j).trans ?_
      exact congrArg (fun q => ixR q (j 1)) (Fin.ext hj)
    conv_lhs => rw [e]
    refine (View.write_emb_of_mem (v := (dstRow b hd).view) _ _ (Finset.mem_univ _)).trans ?_
    exact congrArg x (src_emb b r hs h4 hr _)
  · rw [if_neg hj]
    refine View.write_of_not_mem (v := (dstRow b hd).view) _ _ _ fun hm => hj ?_
    obtain ⟨y, -, hy⟩ := Finset.mem_map.mp hm
    rw [dst_emb b hd h4] at hy
    rw [← hy]; rfl

/-- After the four copies the result is the chosen rows, whatever it held before. -/
theorem copies (h0 h1 h2 h3 g0 g1 g2 g3) (f : S4x2048.Idx → Elt F .f32) (x : S4x8192x2048.Idx → Elt F .f32) :
    ((dstRow 3 h3).view.write (Elt F) ((dstRow 2 h2).view.write (Elt F) ((dstRow 1 h1).view.write (Elt F)
        ((dstRow 0 h0).view.write (Elt F) f ((srcRow 0 7932 g0).view.read (Elt F) x) Finset.univ)
        ((srcRow 1 943 g1).view.read (Elt F) x) Finset.univ)
        ((srcRow 2 736 g2).view.read (Elt F) x) Finset.univ)
        ((srcRow 3 7017 g3).view.read (Elt F) x) Finset.univ : S4x2048.Idx → Elt F .f32)
      = Ref.rows x := by
  funext j
  rw [copy_at 3 7017 h3 g3 (by decide) (by decide), copy_at 2 736 h2 g2 (by decide) (by decide),
    copy_at 1 943 h1 g1 (by decide) (by decide), copy_at 0 7932 h0 g0 (by decide) (by decide)]
  obtain ⟨b, i, rfl⟩ : ∃ b i, j = ixR b i := ⟨_, _, ixR_eta j⟩
  have k : ∀ (r : Fin 8192), Ref.sel b = r → ixA b r i = Ref.rowIdx (ixR b i) := fun r hr => by
    subst hr; funext a; match a with | ⟨0, _⟩ => rfl | ⟨1, _⟩ => rfl | ⟨2, _⟩ => rfl
  fin_cases b <;> exact congrArg x (k _ rfl)

end Cert.Proof.KernelRun
end
-- ==== Proof.KernelRun.lean ====
/-
  The kernel's run. One call, on the first SparseCore's scalar processor: it is handed the argument and the result
  whole, copies one row of the argument to each row of the result, waiting for each copy before it starts the next,
  and hands both back. The run is stated over any float values, so that it serves the printed program and its
  idealization alike.
-/
module

public import proofs.«01_k».proof.Defs
public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.KernelRun

open Cert.KernelIdeal Cert.KernelIdeal.Gen
open Idealize.ShloMosaic
open Idealize.ShloMosaic.SparseCore (S T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four counters are distinct where they must be, and no kernel allocates one of them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

-- the arrays as the body is passed them
local notation "xW" => (Memref.whole Cert.KernelIdeal.main_arg0_scs : Memref Cert.KernelIdeal.sig Kind.scScalar Space.hbm Cert.KernelIdeal.S4x8192x2048 EltTy.f32)
local notation "oW" => (Memref.whole Cert.KernelIdeal.main_v0_scs : Memref Cert.KernelIdeal.sig Kind.scScalar Space.hbm Cert.KernelIdeal.S4x2048 EltTy.f32)

/-- The argument's place in the memory, and the result's. -/
abbrev xLoc (d : Dev nD) : Loc nD τ sig := (SparseCore.T d).loc main_arg0
abbrev oLoc (d : Dev nD) : Loc nD τ sig := (SparseCore.T d).loc main_v0

variable [FloatOps F]

abbrev xPts (d : Dev nD) : sProp 𝕄 := xLoc d ↦{fullShare} m (xLoc d)
abbrev oPts (d : Dev nD) (f : Buf (Elt F) (oLoc d)) : sProp 𝕄 := oLoc d ↦{fullShare} f

/-- What the result holds at the end: of each batch, the chosen row of the argument. -/
def want (d : Dev nD) : Buf (Elt F) (oLoc d) :=
  (Ref.rows (m (xLoc d) : S4x8192x2048.Idx → Elt F .f32) : S4x2048.Idx → Elt F .f32)

/-- The call is handed the argument and the result, and hands them back with the chosen rows in the result. -/
def P : (K (F := F)).Pay (nD := nD) (Val := Elt F) (Name := ℕ) (U := UU) where
  st := fun _ d _ => iprop(xPts m d ∗ ∃ f, oPts d f)
  dn := fun _ d _ => iprop(xPts m d ∗ oPts d (want m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The body -/

section Body

variable (d : Dev nD)

def coordsS (c : Fin (grid0.bound 0)) : grid0.Coords :=
  fun | 0 => c | ⟨_ + 1, h⟩ => absurd h (Nat.not_lt.2 (Nat.le_add_left _ _))

/-- The processor that runs the body. -/
abbrev S0 (h : 0 < grid0.bound 0) : Thread nD τ := S d ((⟨0, h⟩ : Fin (grid0.bound 0)).castLE hcore0)

/-- The counter of copy `k`. -/
abbrev csem (k : Nat) (hk : k < 4 := by decide) : DmaSem sig := ⟨k, hk⟩
abbrev dcell (c : Fin τ.nSC) (k : Fin 4) : GSem nD τ sig := (S d c, .dma (csem k.val k.isLt))

/-- The four copies' counters at zero. -/
abbrev cells0 (c : Fin τ.nSC) : sProp 𝕄 :=
  iprop(semVal (S d c, SemLoc.dma (csem 0)) 0 ∗ semVal (S d c, SemLoc.dma (csem 1)) 0
    ∗ semVal (S d c, SemLoc.dma (csem 2)) 0 ∗ semVal (S d c, SemLoc.dma (csem 3)) 0)

/-- The processor's counters at zero: the copies' four, and the others. -/
theorem counters (c : Fin τ.nSC) :
    (ownSems0 (S d c) : sProp 𝕄)
      = iprop(cells0 d c ∗ bigSep ((ownCells (S d c)) \ Finset.univ.image (dcell d c)) fun g => semVal g 0) := by
  unfold SparseCore.Cfg.ownSems0
  rw [SparseCore.bigSep_sdiff_split' (t := Finset.univ.image (dcell d c))
      (Finset.image_subset_iff.mpr fun k _ => mem_ownCells.mpr
        ⟨rfl, (show ∀ s : DmaSem sig, (SemLoc.dma s : SemLoc sig).isScoped .scScalar = true by decide) _⟩),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

/-- The arrays as the body addresses them are the arrays of the launch. -/
theorem pts_x (c : Fin τ.nSC) (f : Buf (Elt F) (xLoc d)) :
    ((xW).view.loc (S d c) ↦{fullShare} f : sProp 𝕄) = xLoc d ↦{fullShare} f := by
  simp only [Memref.view_whole, View.set_whole]
theorem pts_o (c : Fin τ.nSC) (f : Buf (Elt F) (oLoc d)) :
    ((oW).view.loc (S d c) ↦{fullShare} f : sProp 𝕄) = oLoc d ↦{fullShare} f := by
  simp only [Memref.view_whole, View.set_whole]

/-- The body, from the arrays and the four counters at zero: the argument is kept, the result holds the chosen rows, and
    the counters are zero again. -/
theorem seq_run (h : 0 < grid0.bound 0) (O : CellTallies nD τ sig (HIx 1)) (W : Waits sig (HIx 1))
    (fo : Buf (Elt F) ((oW).view.loc (S0 d h))) :
    (iprop(Transfers.MayWaits (S0 d h) (none : HIx 1) O
        ∗ ((xW).view.loc (S0 d h) ↦{fullShare} m (xLoc d))
        ∗ ((oW).view.loc (S0 d h) ↦{fullShare} fo)
        ∗ cells0 d (((⟨0, h⟩ : Fin (grid0.bound 0))).castLE hcore0)
        ∗ owes (S0 d h) O W) : sProp 𝕄)
      ⊢ wp frame (wpE (defs₀ (F := F)) 𝒱₀ (S0 d h) none) Set.univ
          (cc0_k (coordsS ⟨0, h⟩) xW (Memref.isWhole_whole _) oW (Memref.isWhole_whole _)
            cc0_scoped0 cc0_scoped1 cc0_scoped2 cc0_scoped3)
          fun _ => iprop(((xW).view.loc (S0 d h) ↦{fullShare} m (xLoc d))
            ∗ ((oW).view.loc (S0 d h) ↦{fullShare} want m d)
            ∗ cells0 d (((⟨0, h⟩ : Fin (grid0.bound 0))).castLE hcore0)
            ∗ ∃ W', owes (S0 d h) O W') := by
  iintro ⟨#Hmw, Hx, Ho, ⟨Hc0, Hc1, Hc2, Hc3⟩, HO⟩
  sl_unfold [cc0_k, k0_part1]
  sl_exec
  sl_step
  isplitl [Hx]; · iexact Hx
  isplitl [Ho]
  · iapply (Entails.of_eq (congrArg (fun g : Buf (Elt F) (oLoc d) => ((oW).view.loc (S0 d h) ↦{fullShare} g : sProp 𝕄))
      (copies (F := F) inb_S4x2048_S1x2048_0_0 inb_S4x2048_S1x2048_1_0 inb_S4x2048_S1x2048_2_0 inb_S4x2048_S1x2048_3_0
        inb_S4x8192x2048_S1x1x2048_0_7932_0 inb_S4x8192x2048_S1x1x2048_1_943_0 inb_S4x8192x2048_S1x1x2048_2_736_0
        inb_S4x8192x2048_S1x1x2048_3_7017_0 fo (m (xLoc d)))))
    iexact Ho
  isplitl [Hc0 Hc1 Hc2 Hc3]
  · isplitl [Hc0]; · iexact Hc0
    isplitl [Hc1]; · iexact Hc1
    isplitl [Hc2]; · iexact Hc2
    iexact Hc3
  iexists _; iexact HO

/-- The body as the launch calls it, from all of the processor's scoped buffers and counters. -/
theorem body₀ (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ (xPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0_k (coordsS ⟨0, h⟩) xW (Memref.isWhole_whole _) oW (Memref.isWhole_whole _)
            cc0_scoped0 cc0_scoped1 cc0_scoped2 cc0_scoped3)
          fun _ => iprop((xPts m d ∗ oPts d (want m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [SparseCore.Cfg.scopedSems0_S (Val := Elt F) d _, counters]
  iintro ⟨#Hlv, -, ⟨Hx, %fo, Ho⟩, Hbufs, ⟨⟨HC, Hsems⟩, HtileSems⟩, HO⟩
  ihave Hmw := ((K (F := F)).mayWaits_none (thr := S0 d h) hO) $$ Hlv
  ihave Hx' := (Entails.of_eq (pts_x (F := F) d _ _).symm) $$ Hx
  ihave Ho' := (Entails.of_eq (pts_o (F := F) d _ _).symm) $$ Ho
  iapply (wp_wand_r Idealize.ShloMosaic.frame (wpE (defs₀ (F := F)) 𝒱₀ (S0 d h) none) Set.univ)
  isplitl [Hx' Ho' HC HO]
  · iapply (seq_run m d h O W _)
    isplitr; · iexact Hmw
    isplitl [Hx']; · iexact Hx'
    isplitl [Ho']; · iexact Ho'
    isplitl [HC]; · iexact HC
    iexact HO
  iintro %_ ⟨Hx', Ho', HC, %W', HO⟩
  isplitl [Hx' Ho']
  · isplitl [Hx']; · iapply (Entails.of_eq (pts_x (F := F) d _ _)); iexact Hx'
    iapply (Entails.of_eq (pts_o (F := F) d _ _)); iexact Ho'
  isplitl [Hbufs]; · iexact Hbufs
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

end Body

/-! ## The launch's obligations -/

/-- The scalar processors' entry of the body table. -/
theorem defs₀_scalar (c : Fin τ.nSC) :
    defs₀ (F := F) (.scScalar c) 0 ()
      = SparseCore.onCore hcore0 (fun c => cc0_k (coordsS c) xW (Memref.isWhole_whole _) oW (Memref.isWhole_whole _)
          cc0_scoped0 cc0_scoped1 cc0_scoped2 cc0_scoped3) ⟨⟩ c := rfl

/-- The call's processor runs the body as the launch asks. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d facts h O W hO

/-- Nothing, however many times over. -/
theorem nothing {I : Type} (s : Finset I) : (bigSep s fun _ => iprop(emp)) = (iprop(emp) : sProp 𝕄) := bigSep_emp_const s

/-- The launch's ghost state: the handshakes' alone. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## The host function -/

/-- The arrays at the start: the argument and the result. -/
theorem arrays (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

/-- What the call takes, and what it hands back. -/
theorem st0_eq (d : Dev nD) : (bigSep Finset.univ fun c : Fin ((K (F := F)).nCore 0) => (P m).st 0 d c) = iprop(xPts m d ∗ ∃ f, oPts d f) :=
  bigSep_univ_of_subsingleton (0 : Fin 1)
theorem dn0_eq (d : Dev nD) : (bigSep Finset.univ fun c : Fin ((K (F := F)).nCore 0) => (P m).dn 0 d c) = iprop(xPts m d ∗ oPts d (want m d)) :=
  bigSep_univ_of_subsingleton (0 : Fin 1)

/-- What the host function leaves: the argument as it was, and the result at the chosen rows. -/
abbrev FIN (d : Dev nD) : sProp 𝕄 := iprop(xPts m d ∗ oPts d (want m d))

/-- The host function, the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexists _; iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What is read off the final memory of a device. -/
def fq (d : Dev nD) (s' : Phys nD τ sig (Elt F)) : Prop := s'.mem.mem (xLoc d) = m (xLoc d) ∧ s'.mem.mem (oLoc d) = want m d

/-- An array held whole at `f` is `f` in the memory; the memory is still held. -/
theorem read_off (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) := by
  iintro H
  ihave H' := (persistent_entails_right (SI_pointsTo_agree (st := s') (ℓ := ℓ) (I := Finset.univ) (q := fullShare) (f := f))) $$ H
  icases H' with ⟨%hx, HSI, Hx⟩
  isplitr; · ipureintro; exact funext fun i => hx i (Finset.mem_univ i)
  isplitl [HSI] <;> iassumption

theorem hfin (d : Dev nD) (s' : Phys nD τ sig (Elt F)) : iprop(FIN m d ∗ SI s') ⊢ (⌜fq m d s'⌝ : sProp 𝕄) := by
  iintro ⟨⟨Hx, Ho⟩, HSI⟩
  ihave H := (read_off s' (xLoc d) (m (xLoc d))) $$ [HSI Hx]
  · isplitl [HSI] <;> iassumption
  icases H with ⟨%hx, HSI, -⟩
  ihave H := (read_off s' (oLoc d) (want m d)) $$ [HSI Ho]
  · isplitl [HSI] <;> iassumption
  icases H with ⟨%ho, -, -⟩
  ipureintro; exact ⟨hx, ho⟩

/-- The kernel's run: on every device the argument is kept and the result holds the chosen rows, and every counter is zero. -/
theorem run_main [∀ e, Nonempty (Elt F e)] : θ_run (Cert.KernelIdeal.defs (F := F)) (Cert.KernelIdeal.threads (F := F)) ⟨m, fun _ => 0, ρ⟩
    fun r => (∀ d : Dev nD, r.2.mem (xLoc d) = m (xLoc d) ∧ r.2.mem (oLoc d) = want m d) ∧ r.2.sem = fun _ => 0 :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) _ (fun _ h hz => ⟨h, hz⟩)

end Cert.Proof.KernelRun
end
-- ==== Proof.RefBits.lean ====
/-
  The reference's run at bits. The reference names no float operation, so its printed program and its idealization are
  one text over two signatures that unfold to the same one: at bits the two host functions are the same program, and
  the one's run is the other's.
-/
module

public import proofs.«01_k».proof.Defs
public import proofs.«01_k».proof.Proof.Gather
public import proofs.«01_k».proof.Proof.Gen.Reference

@[expose] public section

noncomputable section

namespace Cert.Proof.RefBits

open Cert.Reference.Gen Cert.ReferenceIdeal.Gen
open Idealize.ShloMosaic

set_option maxHeartbeats 0 in
/-- At bits the printed host function is the idealized one. -/
theorem main_eq (d : Dev Cert.Reference.nD) : Cert.Reference.main (F := Bits) d = Cert.ReferenceIdeal.main (F := Bits) d := (rfl)

open Cert.Reference in
/-- The printed reference's run at bits: the result holds the chosen rows, the argument is kept, every counter is zero. -/
theorem run_main (m : (ℓ : Loc nD τ sig) → Buf (Elt Bits) ℓ) (ρ : Dev nD → PrngReg) :
    θ_run defs (onTc (τ := τ) (main (F := Bits))) ⟨m, fun _ => 0, ρ⟩ fun r =>
      (∀ d : Dev nD, (r.2.mem ((d.tc : Thread nD τ).loc main_v22) : S4x2048.Idx → Elt Bits .f32)
          = Ref.rows (m ((d.tc : Thread nD τ).loc main_arg0) : S4x8192x2048.Idx → Elt Bits .f32)
        ∧ r.2.mem ((d.tc : Thread nD τ).loc main_arg0) = m ((d.tc : Thread nD τ).loc main_arg0))
      ∧ r.2.sem = fun _ => 0 := by
  rw [show (main (F := Bits)) = Cert.ReferenceIdeal.main (F := Bits) from funext main_eq]
  exact Ref.run_main (F := Bits) m ρ

end Cert.Proof.RefBits

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.KernelRun
public import proofs.«01_k».proof.Proof.RefBits
public import Idealize.ShloMosaic.Adequacy
public import Idealize.ShloMosaic.Init

@[expose] public section

noncomputable section

namespace Cert.Proof

open Idealize.ShloMosaic Idealize.SL.Sem
open Cert.Kernel.Gen Cert.KernelIdeal.Gen Cert.ReferenceIdeal.Gen Cert.Reference.Gen

/-- The kernel at bits ends, nothing faulting, with its argument kept and every counter zero. -/
theorem frame_kernel : Cert.quiescent_Kernel := fun m ρ _ =>
  (θ_run Cert.KernelIdeal.defs _ _).mono (fun _ h => ⟨fun c => (h.1 c).1, h.2⟩) (KernelRun.run_main (F := Bits) m ρ)

/-- The same of the kernel over exact numbers. -/
theorem frame_kernelIdeal : Cert.quiescent_KernelIdeal := fun m ρ _ =>
  (θ_run Cert.KernelIdeal.defs _ _).mono (fun _ h => ⟨fun c => (h.1 c).1, h.2⟩) (KernelRun.run_main (F := Ideal) m ρ)

/-- The same of the reference over exact numbers. -/
theorem frame_referenceIdeal : Cert.quiescent_ReferenceIdeal := fun m ρ _ =>
  (θ_run Cert.ReferenceIdeal.defs _ _).mono (fun _ h => ⟨fun c => (h.1 c).2, h.2⟩) (Ref.run_main (F := Ideal) m ρ)

/-- The same of the reference at bits. -/
theorem frame_reference : Cert.quiescent_Reference := fun m ρ _ =>
  (θ_run Cert.Reference.defs _ _).mono (fun _ h => ⟨fun c => (h.1 c).2, h.2⟩) (RefBits.run_main m ρ)

/-- Over exact numbers kernel and reference leave one value, the chosen rows of the shared argument. -/
theorem algebraic : Cert.algebraic_KernelIdeal_ReferenceIdeal := fun m ρ m' ρ' _ agree =>
  ⟨KernelRun.want m,
    (θ_run Cert.KernelIdeal.defs _ _).mono (fun _ h c => ⟨(h.1 c).2, (h.1 c).1⟩) (KernelRun.run_main (F := Ideal) m ρ),
    (θ_run Cert.ReferenceIdeal.defs _ _).mono (fun _ h c => ⟨(h.1 c).1.trans (congrArg Ref.rows (agree c)), (h.1 c).2⟩)
      (Ref.run_main (F := Ideal) m' ρ')⟩

/-- At bits kernel and reference leave the same bits, the chosen rows of the shared argument. -/
theorem bitexact : Cert.bitexact_Kernel_Reference := fun m ρ m' ρ' _ agree =>
  ⟨KernelRun.want (F := Bits) m,
    (θ_run Cert.KernelIdeal.defs _ _).mono (fun _ h c => ⟨(h.1 c).2, (h.1 c).1⟩) (KernelRun.run_main (F := Bits) m ρ),
    (θ_run Cert.Reference.defs _ _).mono (fun _ h c => ⟨(h.1 c).1.trans (congrArg Ref.rows (agree c)), (h.1 c).2⟩)
      (RefBits.run_main m' ρ')⟩

/-- The certificate's claim. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
